-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)) (v4 : (c : Dev Cert.Kernel3Ideal.nD) → Buf (Elt Ideal) ((c.tc : Thread Cert.Kernel3Ideal.nD Cert.Kernel3Ideal.τ).loc Cert.Kernel3Ideal.main_v16_4)) (v5 : (c : Dev Cert.Kernel3Ideal.nD) → Buf (Elt Ideal) ((c.tc : Thread Cert.Kernel3Ideal.nD Cert.Kernel3Ideal.τ).loc Cert.Kernel3Ideal.main_v16_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_v16_4) = v4 c
          ∧ r.2.mem ((c.tc : Thread Cert.Kernel3Ideal.nD Cert.Kernel3Ideal.τ).loc Cert.Kernel3Ideal.main_v16_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v35) = v3 c
          ∧ r.2.mem ((c.tc : Thread Cert.Reference3Ideal.nD Cert.Reference3Ideal.τ).loc Cert.Reference3Ideal.main_v36) = v4 c
          ∧ r.2.mem ((c.tc : Thread Cert.Reference3Ideal.nD Cert.Reference3Ideal.τ).loc Cert.Reference3Ideal.main_v31) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S16x1536x2048 : Shape := ⟨3, ![16, 1536, 2048]⟩
abbrev S16x2048x1536 : Shape := ⟨3, ![16, 2048, 1536]⟩
abbrev S16x6x4x128x512 : Shape := ⟨5, ![16, 6, 4, 128, 512]⟩
abbrev S_ : Shape := ⟨0, ![]⟩

class Facts : Prop where
  bitsLt_bf16_f32 : FTy.bits .bf16 < FTy.bits .f32
  bcast_S_S16x1536x2048 : S_.BroadcastsInDim S16x1536x2048 (![] : Fin 0 → Fin S16x1536x2048.rank)
  bcast_S_S16x2048x1536 : S_.BroadcastsInDim S16x2048x1536 (![] : Fin 0 → Fin S16x2048x1536.rank)

variable [Facts]

def fn {F : FTy → Type} [FloatOps F] (main_arg0 : FVec F S16x1536x2048 .bf16) (main_arg1 : FVec F S16x2048x1536 .bf16) (main_arg2 : FVec F S16x6x4x128x512 .bf16) : IVec S16x1536x2048 1 × IVec S16x2048x1536 1 :=
  let main_v0 : FVec F S16x1536x2048 .f32 := (extf .f32 · bitsLt_bf16_f32) main_arg0
  let main_v1 : FVec F S16x1536x2048 .f32 := Host.absf main_v0
  let main_cst : FVec F S_ .f32 := constant S_ .f32 0x7F800000#32
  let main_v2 : FVec F S16x1536x2048 .f32 := broadcastInDim S16x1536x2048 ![] bcast_S_S16x1536x2048 main_cst
  let main_v3 : IVec S16x1536x2048 1 := cmpf .olt main_v1 main_v2
  let main_v4 : FVec F S16x2048x1536 .f32 := (extf .f32 · bitsLt_bf16_f32) main_arg1
  let main_v5 : FVec F S16x2048x1536 .f32 := Host.absf main_v4
  let main_cst_0 : FVec F S_ .f32 := constant S_ .f32 0x7F800000#32
  let main_v6 : FVec F S16x2048x1536 .f32 := broadcastInDim S16x2048x1536 ![] bcast_S_S16x2048x1536 main_cst_0
  let main_v7 : IVec S16x2048x1536 1 := cmpf .olt main_v5 main_v6
  (main_v3, main_v7)
-- ==== Kernel.lean ====
abbrev S16x1536x2048 : Shape := ⟨3, ![16, 1536, 2048]⟩
abbrev S16x2048x1536 : Shape := ⟨3, ![16, 2048, 1536]⟩
abbrev S16x6x4x128x512 : Shape := ⟨5, ![16, 6, 4, 128, 512]⟩
abbrev S_ : Shape := ⟨0, ![]⟩
abbrev S16x6x4x16x512 : Shape := ⟨5, ![16, 6, 4, 16, 512]⟩
abbrev S16x6x4x144x512 : Shape := ⟨5, ![16, 6, 4, 144, 512]⟩
abbrev S16x2048x768 : Shape := ⟨3, ![16, 2048, 768]⟩
abbrev S1x256x1024 : Shape := ⟨3, ![1, 256, 1024]⟩
abbrev S1x2048x256 : Shape := ⟨3, ![1, 2048, 256]⟩
abbrev S1x1x4x144x512 : Shape := ⟨5, ![1, 1, 4, 144, 512]⟩
abbrev S1x1024x128 : Shape := ⟨3, ![1, 1024, 128]⟩
abbrev S512x1024 : Shape := ⟨2, ![512, 1024]⟩
abbrev S4x8x1024 : Shape := ⟨3, ![4, 8, 1024]⟩
abbrev S1x1024 : Shape := ⟨2, ![1, 1024]⟩
abbrev S144x1024 : Shape := ⟨2, ![144, 1024]⟩
abbrev S1x512x256 : Shape := ⟨3, ![1, 512, 256]⟩
abbrev S512x256 : Shape := ⟨2, ![512, 256]⟩
abbrev S256x1024 : Shape := ⟨2, ![256, 1024]⟩
abbrev S64x8x1024 : Shape := ⟨3, ![64, 8, 1024]⟩
abbrev S8x1024 : Shape := ⟨2, ![8, 1024]⟩
abbrev S1x8x1024 : Shape := ⟨3, ![1, 8, 1024]⟩
abbrev S1024 : Shape := ⟨1, ![1024]⟩
abbrev S16x1024 : Shape := ⟨2, ![16, 1024]⟩
abbrev S1x1x1x144x512 : Shape := ⟨5, ![1, 1, 1, 144, 512]⟩
abbrev S144x512 : Shape := ⟨2, ![144, 512]⟩
abbrev S128x1024 : Shape := ⟨2, ![128, 1024]⟩
abbrev S1024x128 : Shape := ⟨2, ![1024, 128]⟩

abbrev nBuf : Space → Nat
  | .hbm => 7
  | .vmem => 17
  | .smem => 0
  | _ => 0

abbrev bufTy : (tb : Table) → Fin (tcTables nBuf tb) → BufTy
  | .hbm, ⟨0, _⟩ => ⟨S16x1536x2048, .bf16⟩
  | .hbm, ⟨1, _⟩ => ⟨S16x2048x1536, .bf16⟩
  | .hbm, ⟨2, _⟩ => ⟨S16x6x4x128x512, .bf16⟩
  | .hbm, ⟨3, _⟩ => ⟨S_, .bf16⟩
  | .hbm, ⟨4, _⟩ => ⟨S16x6x4x16x512, .bf16⟩
  | .hbm, ⟨5, _⟩ => ⟨S16x6x4x144x512, .bf16⟩
  | .hbm, ⟨6, _⟩ => ⟨S16x2048x768, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x1x4x144x512, .bf16⟩
  | .local _ .vmem, ⟨5, _⟩ => ⟨S1x1x4x144x512, .bf16⟩
  | .local _ .vmem, ⟨6, _⟩ => ⟨S1x1024x128, .bf16⟩
  | .local _ .vmem, ⟨7, _⟩ => ⟨S1x1024x128, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S4x8x1024, .f32⟩
  | .local _ .vmem, ⟨15, _⟩ => ⟨S1x1024, .f32⟩
  | .local _ .vmem, ⟨16, _⟩ => ⟨S144x1024, .f32⟩
  | _, _ => ⟨S16x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 6, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x1536x2048 : Shape := ⟨3, ![16, 1536, 2048]⟩
abbrev S16x2048x1536 : Shape := ⟨3, ![16, 2048, 1536]⟩
abbrev S16x6x4x128x512 : Shape := ⟨5, ![16, 6, 4, 128, 512]⟩
abbrev S16x6x256x2048 : Shape := ⟨4, ![16, 6, 256, 2048]⟩
abbrev S16x2048x6x256 : Shape := ⟨4, ![16, 2048, 6, 256]⟩
abbrev S16x4x512x6x128 : Shape := ⟨5, ![16, 4, 512, 6, 128]⟩
abbrev S16x2048x6x128 : Shape := ⟨4, ![16, 2048, 6, 128]⟩
abbrev S16x6x2048x2048 : Shape := ⟨4, ![16, 6, 2048, 2048]⟩
abbrev S_ : Shape := ⟨0, ![]⟩
abbrev S16x6x2048 : Shape := ⟨3, ![16, 6, 2048]⟩
abbrev S16x6x2048x1 : Shape := ⟨4, ![16, 6, 2048, 1]⟩
abbrev S16x6x128x2048 : Shape := ⟨4, ![16, 6, 128, 2048]⟩
abbrev S16x2048x768 : Shape := ⟨3, ![16, 2048, 768]⟩

abbrev nBuf : Space → Nat
  | .hbm => 33
  | .vmem => 0
  | .smem => 0
  | _ => 0

abbrev bufTy : (tb : Table) → Fin (tcTables nBuf tb) → BufTy
  | .hbm, ⟨0, _⟩ => ⟨S16x1536x2048, .bf16⟩
  | .hbm, ⟨1, _⟩ => ⟨S16x2048x1536, .bf16⟩
  | .hbm, ⟨2, _⟩ => ⟨S16x6x4x128x512, .bf16⟩
  | .hbm, ⟨3, _⟩ => ⟨S16x1536x2048, .f32⟩
  | .hbm, ⟨4, _⟩ => ⟨S16x6x256x2048, .f32⟩
  | .hbm, ⟨5, _⟩ => ⟨S16x2048x1536, .f32⟩
  | .hbm, ⟨6, _⟩ => ⟨S16x2048x6x256, .f32⟩
  | .hbm, ⟨7, _⟩ => ⟨S16x6x4x128x512, .f32⟩
  | .hbm, ⟨8, _⟩ => ⟨S16x4x512x6x128, .f32⟩
  | .hbm, ⟨9, _⟩ => ⟨S16x2048x6x128, .f32⟩
  | .hbm, ⟨10, _⟩ => ⟨S16x6x2048x2048, .f32⟩
  | .hbm, ⟨11, _⟩ => ⟨S_, .f32⟩
  | .hbm, ⟨12, _⟩ => ⟨S_, .f32⟩
  | .hbm, ⟨13, _⟩ => ⟨S16x6x2048x2048, .f32⟩
  | .hbm, ⟨14, _⟩ => ⟨S16x6x2048x2048, .f32⟩
  | .hbm, ⟨15, _⟩ => ⟨S_, .f32⟩
  | .hbm, ⟨16, _⟩ => ⟨S16x6x2048, .f32⟩
  | .hbm, ⟨17, _⟩ => ⟨S_, .f32⟩
  | .hbm, ⟨18, _⟩ => ⟨S16x6x2048, .f32⟩
  | .hbm, ⟨19, _⟩ => ⟨S16x6x2048, .f32⟩
  | .hbm, ⟨20, _⟩ => ⟨S16x6x2048x1, .f32⟩
  | .hbm, ⟨21, _⟩ => ⟨S16x6x2048x2048, .f32⟩
  | .hbm, ⟨22, _⟩ => ⟨S16x6x2048x2048, .f32⟩
  | .hbm, ⟨23, _⟩ => ⟨S16x6x2048x2048, .f32⟩
  | .hbm, ⟨24, _⟩ => ⟨S_, .f32⟩
  | .hbm, ⟨25, _⟩ => ⟨S16x6x2048, .f32⟩
  | .hbm, ⟨26, _⟩ => ⟨S16x6x2048x1, .f32⟩
  | .hbm, ⟨27, _⟩ => ⟨S16x6x2048x2048, .f32⟩
  | .hbm, ⟨28, _⟩ => ⟨S16x6x2048x2048, .f32⟩
  | .hbm, ⟨29, _⟩ => ⟨S16x6x128x2048, .f32⟩
  | .hbm, ⟨30, _⟩ => ⟨S16x2048x6x128, .f32⟩
  | .hbm, ⟨31, _⟩ => ⟨S16x2048x768, .f32⟩
  | .hbm, ⟨32, _⟩ => ⟨S16x2048x768, .bf16⟩
  | _, _ => ⟨S16x1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel2.lean ====
abbrev S16x2048x2048 : Shape := ⟨3, ![16, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S32768x2048 : Shape := ⟨2, ![32768, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S512 : Shape := ⟨1, ![512]⟩
abbrev S512x1 : Shape := ⟨2, ![512, 1]⟩
abbrev S1x2048x1024 : Shape := ⟨3, ![1, 2048, 1024]⟩
abbrev S2048x1024 : Shape := ⟨2, ![2048, 1024]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 15
  | .vmem => 11
  | .smem => 0
  | _ => 0

abbrev bufTy : (tb : Table) → Fin (tcTables nBuf tb) → BufTy
  | .hbm, ⟨0, _⟩ => ⟨S16x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S32768x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2x2048x8192, .bf16⟩
  | .hbm, ⟨10, _⟩ => ⟨S2x8192x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16x2048x2048 : Shape := ⟨3, ![16, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S16x2048x8192 : Shape := ⟨3, ![16, 2048, 8192]⟩
abbrev S1x8192x2048 : Shape := ⟨3, ![1, 8192, 2048]⟩
abbrev S8192x2048 : Shape := ⟨2, ![8192, 2048]⟩
abbrev S32768x2048 : Shape := ⟨2, ![32768, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S1x2048x8192, .f32⟩
  | .hbm, ⟨24, _⟩ => ⟨S2048x8192, .f32⟩
  | .hbm, ⟨25, _⟩ => ⟨S16x2048x8192, .f32⟩
  | .hbm, ⟨26, _⟩ => ⟨S_, .f32⟩
  | .hbm, ⟨27, _⟩ => ⟨S16x2048x8192, .f32⟩
  | .hbm, ⟨28, _⟩ => ⟨S16x2048x8192, .f32⟩
  | .hbm, ⟨29, _⟩ => ⟨S16x2048x8192, .f32⟩
  | .hbm, ⟨30, _⟩ => ⟨S1x8192x2048, .f32⟩
  | .hbm, ⟨31, _⟩ => ⟨S8192x2048, .f32⟩
  | .hbm, ⟨32, _⟩ => ⟨S16x2048x2048, .f32⟩
  | .hbm, ⟨33, _⟩ => ⟨S1x2048, .f32⟩
  | .hbm, ⟨34, _⟩ => ⟨S2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S1x1x2048, .f32⟩
  | .hbm, ⟨49, _⟩ => ⟨S16x2048x2048, .f32⟩
  | .hbm, ⟨50, _⟩ => ⟨S16x2048x2048, .f32⟩
  | .hbm, ⟨51, _⟩ => ⟨S16x2048x2048, .f32⟩
  | .hbm, ⟨52, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S16x2048x2048 : Shape := ⟨3, ![16, 2048, 2048]⟩
abbrev S2x2048 : Shape := ⟨2, ![2, 2048]⟩
abbrev S2x2048x3672 : Shape := ⟨3, ![2, 2048, 3672]⟩
abbrev S1x2048x3672 : Shape := ⟨3, ![1, 2048, 3672]⟩
abbrev S2048x3672 : Shape := ⟨2, ![2048, 3672]⟩
abbrev S2048x32 : Shape := ⟨2, ![2048, 32]⟩
abbrev S2048x24 : Shape := ⟨2, ![2048, 24]⟩
abbrev S_ : Shape := ⟨0, ![]⟩
abbrev S2048x8 : Shape := ⟨2, ![2048, 8]⟩
abbrev S2048x128 : Shape := ⟨2, ![2048, 128]⟩
abbrev S2048x1536 : Shape := ⟨2, ![2048, 1536]⟩
abbrev S2048x2048 : Shape := ⟨2, ![2048, 2048]⟩
abbrev S2048x3712 : Shape := ⟨2, ![2048, 3712]⟩
abbrev S32768x2048 : Shape := ⟨2, ![32768, 2048]⟩
abbrev S1x2048 : Shape := ⟨2, ![1, 2048]⟩
abbrev S2048 : Shape := ⟨1, ![2048]⟩
abbrev S32768x512 : Shape := ⟨2, ![32768, 512]⟩
abbrev S32768x768 : Shape := ⟨2, ![32768, 768]⟩
abbrev S32768x1280 : Shape := ⟨2, ![32768, 1280]⟩
abbrev S32768x128 : Shape := ⟨2, ![32768, 128]⟩
abbrev S512x2048 : Shape := ⟨2, ![512, 2048]⟩
abbrev S512x512 : Shape := ⟨2, ![512, 512]⟩
abbrev S512x768 : Shape := ⟨2, ![512, 768]⟩
abbrev S512x1280 : Shape := ⟨2, ![512, 1280]⟩
abbrev S512x128 : Shape := ⟨2, ![512, 128]⟩
abbrev S512 : Shape := ⟨1, ![512]⟩
abbrev S512x1 : Shape := ⟨2, ![512, 1]⟩
abbrev S2048x512 : Shape := ⟨2, ![2048, 512]⟩
abbrev S2048x256 : Shape := ⟨2, ![2048, 256]⟩
abbrev S512x256 : Shape := ⟨2, ![512, 256]⟩

abbrev nBuf : Space → Nat
  | .hbm => 27
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S2x2048, .f32⟩
  | .hbm, ⟨2, _⟩ => ⟨S2x2048x3672, .f32⟩
  | .hbm, ⟨3, _⟩ => ⟨S1x2048x3672, .f32⟩
  | .hbm, ⟨4, _⟩ => ⟨S2048x3672, .f32⟩
  | .hbm, ⟨5, _⟩ => ⟨S2048x32, .f32⟩
  | .hbm, ⟨6, _⟩ => ⟨S2048x24, .f32⟩
  | .hbm, ⟨7, _⟩ => ⟨S_, .f32⟩
  | .hbm, ⟨8, _⟩ => ⟨S2048x8, .f32⟩
  | .hbm, ⟨9, _⟩ => ⟨S2048x32, .f32⟩
  | .hbm, ⟨10, _⟩ => ⟨S_, .f32⟩
  | .hbm, ⟨11, _⟩ => ⟨S2048x32, .f32⟩
  | .hbm, ⟨12, _⟩ => ⟨S2048x128, .f32⟩
  | .hbm, ⟨13, _⟩ => ⟨S2048x1536, .f32⟩
  | .hbm, ⟨14, _⟩ => ⟨S2048x2048, .f32⟩
  | .hbm, ⟨15, _⟩ => ⟨S2048x3712, .f32⟩
  | .hbm, ⟨16, _⟩ => ⟨S2048x3712, .bf16⟩
  | .hbm, ⟨17, _⟩ => ⟨S32768x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S32768x512, .bf16⟩
  | .hbm, ⟨22, _⟩ => ⟨S32768x512, .bf16⟩
  | .hbm, ⟨23, _⟩ => ⟨S32768x512, .bf16⟩
  | .hbm, ⟨24, _⟩ => ⟨S32768x768, .bf16⟩
  | .hbm, ⟨25, _⟩ => ⟨S32768x1280, .bf16⟩
  | .hbm, ⟨26, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3712, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x768, .bf16⟩
  | .local _ .vmem, ⟨11, _⟩ => ⟨S512x768, .bf16⟩
  | .local _ .vmem, ⟨12, _⟩ => ⟨S512x1280, .bf16⟩
  | .local _ .vmem, ⟨13, _⟩ => ⟨S512x1280, .bf16⟩
  | .local _ .vmem, ⟨14, _⟩ => ⟨S512x128, .f32⟩
  | .local _ .vmem, ⟨15, _⟩ => ⟨S512x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16x2048x2048 : Shape := ⟨3, ![16, 2048, 2048]⟩
abbrev S2x2048 : Shape := ⟨2, ![2, 2048]⟩
abbrev S2x2048x3672 : Shape := ⟨3, ![2, 2048, 3672]⟩
abbrev S_ : Shape := ⟨0, ![]⟩
abbrev S16x2048 : Shape := ⟨2, ![16, 2048]⟩
abbrev S16x2048x1 : Shape := ⟨3, ![16, 2048, 1]⟩
abbrev S1x2048 : Shape := ⟨2, ![1, 2048]⟩
abbrev S2048 : Shape := ⟨1, ![2048]⟩
abbrev S1x1x2048 : Shape := ⟨3, ![1, 1, 2048]⟩
abbrev S1x2048x3672 : Shape := ⟨3, ![1, 2048, 3672]⟩
abbrev S2048x3672 : Shape := ⟨2, ![2048, 3672]⟩
abbrev S16x2048x3672 : Shape := ⟨3, ![16, 2048, 3672]⟩
abbrev S32768x3672 : Shape := ⟨2, ![32768, 3672]⟩
abbrev S32768x512 : Shape := ⟨2, ![32768, 512]⟩
abbrev S32768x64 : Shape := ⟨2, ![32768, 64]⟩
abbrev S32768x768 : Shape := ⟨2, ![32768, 768]⟩
abbrev S32768x1280 : Shape := ⟨2, ![32768, 1280]⟩
abbrev S32768x12 : Shape := ⟨2, ![32768, 12]⟩
abbrev S32768x32 : Shape := ⟨2, ![32768, 32]⟩
abbrev S32768x8 : Shape := ⟨2, ![32768, 8]⟩
abbrev S32768x128 : Shape := ⟨2, ![32768, 128]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2x2048, .f32⟩
  | .hbm, ⟨2, _⟩ => ⟨S2x2048x3672, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S16x2048x2048, .f32⟩
  | .hbm, ⟨20, _⟩ => ⟨S16x2048x2048, .f32⟩
  | .hbm, ⟨21, _⟩ => ⟨S1x2048x3672, .f32⟩
  | .hbm, ⟨22, _⟩ => ⟨S2048x3672, .f32⟩
  | .hbm, ⟨23, _⟩ => ⟨S16x2048x3672, .f32⟩
  | .hbm, ⟨24, _⟩ => ⟨S32768x3672, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x64, .f32⟩
  | .hbm, ⟨29, _⟩ => ⟨S32768x768, .f32⟩
  | .hbm, ⟨30, _⟩ => ⟨S32768x1280, .f32⟩
  | .hbm, ⟨31, _⟩ => ⟨S32768x12, .f32⟩
  | .hbm, ⟨32, _⟩ => ⟨S32768x12, .f32⟩
  | .hbm, ⟨33, _⟩ => ⟨S32768x32, .f32⟩
  | .hbm, ⟨34, _⟩ => ⟨S_, .f32⟩
  | .hbm, ⟨35, _⟩ => ⟨S32768x8, .f32⟩
  | .hbm, ⟨36, _⟩ => ⟨S32768x32, .f32⟩
  | .hbm, ⟨37, _⟩ => ⟨S_, .f32⟩
  | .hbm, ⟨38, _⟩ => ⟨S32768x32, .f32⟩
  | .hbm, ⟨39, _⟩ => ⟨S32768x128, .f32⟩
  | .hbm, ⟨40, _⟩ => ⟨S32768x512, .bf16⟩
  | .hbm, ⟨41, _⟩ => ⟨S32768x512, .bf16⟩
  | .hbm, ⟨42, _⟩ => ⟨S32768x512, .bf16⟩
  | .hbm, ⟨43, _⟩ => ⟨S32768x768, .bf16⟩
  | .hbm, ⟨44, _⟩ => ⟨S32768x1280, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Kernel4.lean ====
abbrev S16x2048x2048 : Shape := ⟨3, ![16, 2048, 2048]⟩
abbrev S16x2048x512 : Shape := ⟨3, ![16, 2048, 512]⟩
abbrev S16x2048x768 : Shape := ⟨3, ![16, 2048, 768]⟩
abbrev S32768x768 : Shape := ⟨2, ![32768, 768]⟩
abbrev S2x12 : Shape := ⟨2, ![2, 12]⟩
abbrev S2x768 : Shape := ⟨2, ![2, 768]⟩
abbrev S2x2048x2048 : Shape := ⟨3, ![2, 2048, 2048]⟩
abbrev S2x2048 : Shape := ⟨2, ![2, 2048]⟩
abbrev S32768x2048 : Shape := ⟨2, ![32768, 2048]⟩
abbrev S32768x512 : Shape := ⟨2, ![32768, 512]⟩
abbrev S1x12 : Shape := ⟨2, ![1, 12]⟩
abbrev S12 : Shape := ⟨1, ![12]⟩
abbrev S12x64 : Shape := ⟨2, ![12, 64]⟩
abbrev S768 : Shape := ⟨1, ![768]⟩
abbrev S1x768 : Shape := ⟨2, ![1, 768]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512x512 : Shape := ⟨2, ![512, 512]⟩
abbrev S512x768 : Shape := ⟨2, ![512, 768]⟩
abbrev S512x384 : Shape := ⟨2, ![512, 384]⟩
abbrev S512 : Shape := ⟨1, ![512]⟩
abbrev S512x1 : Shape := ⟨2, ![512, 1]⟩
abbrev S768x2048 : Shape := ⟨2, ![768, 2048]⟩

abbrev nBuf : Space → Nat
  | .hbm => 32
  | .vmem => 20
  | .smem => 0
  | _ => 0

abbrev bufTy : (tb : Table) → Fin (tcTables nBuf tb) → BufTy
  | .hbm, ⟨0, _⟩ => ⟨S16x2048x2048, .f32⟩
  | .hbm, ⟨1, _⟩ => ⟨S16x2048x512, .bf16⟩
  | .hbm, ⟨2, _⟩ => ⟨S16x2048x768, .bf16⟩
  | .hbm, ⟨3, _⟩ => ⟨S16x2048x768, .bf16⟩
  | .hbm, ⟨4, _⟩ => ⟨S16x2048x768, .bf16⟩
  | .hbm, ⟨5, _⟩ => ⟨S16x2048x768, .bf16⟩
  | .hbm, ⟨6, _⟩ => ⟨S32768x768, .bf16⟩
  | .hbm, ⟨7, _⟩ => ⟨S2x12, .f32⟩
  | .hbm, ⟨8, _⟩ => ⟨S2x768, .f32⟩
  | .hbm, ⟨9, _⟩ => ⟨S2x2048x2048, .f32⟩
  | .hbm, ⟨10, _⟩ => ⟨S2x2048, .f32⟩
  | .hbm, ⟨11, _⟩ => ⟨S32768x2048, .f32⟩
  | .hbm, ⟨12, _⟩ => ⟨S32768x512, .bf16⟩
  | .hbm, ⟨13, _⟩ => ⟨S32768x768, .bf16⟩
  | .hbm, ⟨14, _⟩ => ⟨S32768x768, .bf16⟩
  | .hbm, ⟨15, _⟩ => ⟨S32768x768, .bf16⟩
  | .hbm, ⟨16, _⟩ => ⟨S32768x768, .bf16⟩
  | .hbm, ⟨17, _⟩ => ⟨S1x12, .f32⟩
  | .hbm, ⟨18, _⟩ => ⟨S12, .f32⟩
  | .hbm, ⟨19, _⟩ => ⟨S12x64, .f32⟩
  | .hbm, ⟨20, _⟩ => ⟨S768, .f32⟩
  | .hbm, ⟨21, _⟩ => ⟨S1x768, .f32⟩
  | .hbm, ⟨22, _⟩ => ⟨S1x768, .f32⟩
  | .hbm, ⟨23, _⟩ => ⟨S768, .f32⟩
  | .hbm, ⟨24, _⟩ => ⟨S1x768, .f32⟩
  | .hbm, ⟨25, _⟩ => ⟨S1x2048x2048, .f32⟩
  | .hbm, ⟨26, _⟩ => ⟨S2048x2048, .f32⟩
  | .hbm, ⟨27, _⟩ => ⟨S2048x2048, .bf16⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S1x768, .f32⟩
  | .local _ .vmem, ⟨15, _⟩ => ⟨S1x768, .f32⟩
  | .local _ .vmem, ⟨16, _⟩ => ⟨S2048x2048, .bf16⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16x2048x2048 : Shape := ⟨3, ![16, 2048, 2048]⟩
abbrev S16x2048x512 : Shape := ⟨3, ![16, 2048, 512]⟩
abbrev S16x2048x768 : Shape := ⟨3, ![16, 2048, 768]⟩
abbrev S32768x768 : Shape := ⟨2, ![32768, 768]⟩
abbrev S2x12 : Shape := ⟨2, ![2, 12]⟩
abbrev S2x768 : Shape := ⟨2, ![2, 768]⟩
abbrev S2x2048x2048 : Shape := ⟨3, ![2, 2048, 2048]⟩
abbrev S2x2048 : Shape := ⟨2, ![2, 2048]⟩
abbrev S16x2048x12x64 : Shape := ⟨4, ![16, 2048, 12, 64]⟩
abbrev S1x12 : Shape := ⟨2, ![1, 12]⟩
abbrev S12 : Shape := ⟨1, ![12]⟩
abbrev S12x1 : Shape := ⟨2, ![12, 1]⟩
abbrev S1x1x12x1 : Shape := ⟨4, ![1, 1, 12, 1]⟩
abbrev S_ : Shape := ⟨0, ![]⟩
abbrev S16x2048x2x384 : Shape := ⟨4, ![16, 2048, 2, 384]⟩
abbrev S16x2048x2 : Shape := ⟨3, ![16, 2048, 2]⟩
abbrev S16x2048x2x1 : Shape := ⟨4, ![16, 2048, 2, 1]⟩
abbrev S1x768 : Shape := ⟨2, ![1, 768]⟩
abbrev S768 : Shape := ⟨1, ![768]⟩
abbrev S1x1x768 : Shape := ⟨3, ![1, 1, 768]⟩
abbrev S1x2048x2048 : Shape := ⟨3, ![1, 2048, 2048]⟩
abbrev S2048x2048 : Shape := ⟨2, ![2048, 2048]⟩
abbrev S16x2048 : Shape := ⟨2, ![16, 2048]⟩
abbrev S16x2048x1 : Shape := ⟨3, ![16, 2048, 1]⟩
abbrev S1x2048 : Shape := ⟨2, ![1, 2048]⟩
abbrev S2048 : Shape := ⟨1, ![2048]⟩
abbrev S1x1x2048 : Shape := ⟨3, ![1, 1, 2048]⟩
abbrev S32768x2048 : Shape := ⟨2, ![32768, 2048]⟩

abbrev nBuf : Space → Nat
  | .hbm => 84
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x512, .bf16⟩
  | .hbm, ⟨2, _⟩ => ⟨S16x2048x768, .bf16⟩
  | .hbm, ⟨3, _⟩ => ⟨S16x2048x768, .bf16⟩
  | .hbm, ⟨4, _⟩ => ⟨S16x2048x768, .bf16⟩
  | .hbm, ⟨5, _⟩ => ⟨S16x2048x768, .bf16⟩
  | .hbm, ⟨6, _⟩ => ⟨S32768x768, .bf16⟩
  | .hbm, ⟨7, _⟩ => ⟨S2x12, .f32⟩
  | .hbm, ⟨8, _⟩ => ⟨S2x768, .f32⟩
  | .hbm, ⟨9, _⟩ => ⟨S2x2048x2048, .f32⟩
  | .hbm, ⟨10, _⟩ => ⟨S2x2048, .f32⟩
  | .hbm, ⟨11, _⟩ => ⟨S16x2048x512, .f32⟩
  | .hbm, ⟨12, _⟩ => ⟨S16x2048x768, .f32⟩
  | .hbm, ⟨13, _⟩ => ⟨S16x2048x768, .f32⟩
  | .hbm, ⟨14, _⟩ => ⟨S16x2048x768, .f32⟩
  | .hbm, ⟨15, _⟩ => ⟨S16x2048x768, .f32⟩
  | .hbm, ⟨16, _⟩ => ⟨S32768x768, .f32⟩
  | .hbm, ⟨17, _⟩ => ⟨S16x2048x12x64, .f32⟩
  | .hbm, ⟨18, _⟩ => ⟨S16x2048x12x64, .f32⟩
  | .hbm, ⟨19, _⟩ => ⟨S16x2048x12x64, .f32⟩
  | .hbm, ⟨20, _⟩ => ⟨S16x2048x12x64, .f32⟩
  | .hbm, ⟨21, _⟩ => ⟨S1x12, .f32⟩
  | .hbm, ⟨22, _⟩ => ⟨S12, .f32⟩
  | .hbm, ⟨23, _⟩ => ⟨S12x1, .f32⟩
  | .hbm, ⟨24, _⟩ => ⟨S1x1x12x1, .f32⟩
  | .hbm, ⟨25, _⟩ => ⟨S16x2048x12x64, .f32⟩
  | .hbm, ⟨26, _⟩ => ⟨S16x2048x12x64, .f32⟩
  | .hbm, ⟨27, _⟩ => ⟨S16x2048x12x64, .f32⟩
  | .hbm, ⟨28, _⟩ => ⟨S16x2048x768, .f32⟩
  | .hbm, ⟨29, _⟩ => ⟨S16x2048x768, .f32⟩
  | .hbm, ⟨30, _⟩ => ⟨S16x2048x768, .f32⟩
  | .hbm, ⟨31, _⟩ => ⟨S16x2048x768, .f32⟩
  | .hbm, ⟨32, _⟩ => ⟨S_, .f32⟩
  | .hbm, ⟨33, _⟩ => ⟨S16x2048x768, .f32⟩
  | .hbm, ⟨34, _⟩ => ⟨S16x2048x768, .f32⟩
  | .hbm, ⟨35, _⟩ => ⟨S_, .f32⟩
  | .hbm, ⟨36, _⟩ => ⟨S16x2048x768, .f32⟩
  | .hbm, ⟨37, _⟩ => ⟨S16x2048x768, .f32⟩
  | .hbm, ⟨38, _⟩ => ⟨S16x2048x768, .f32⟩
  | .hbm, ⟨39, _⟩ => ⟨S16x2048x768, .f32⟩
  | .hbm, ⟨40, _⟩ => ⟨S16x2048x2x384, .f32⟩
  | .hbm, ⟨41, _⟩ => ⟨S16x2048x2x384, .f32⟩
  | .hbm, ⟨42, _⟩ => ⟨S_, .f32⟩
  | .hbm, ⟨43, _⟩ => ⟨S16x2048x2, .f32⟩
  | .hbm, ⟨44, _⟩ => ⟨S16x2048x2x1, .f32⟩
  | .hbm, ⟨45, _⟩ => ⟨S_, .f32⟩
  | .hbm, ⟨46, _⟩ => ⟨S16x2048x2x1, .f32⟩
  | .hbm, ⟨47, _⟩ => ⟨S16x2048x2x1, .f32⟩
  | .hbm, ⟨48, _⟩ => ⟨S_, .f32⟩
  | .hbm, ⟨49, _⟩ => ⟨S16x2048x2x1, .f32⟩
  | .hbm, ⟨50, _⟩ => ⟨S16x2048x2x1, .f32⟩
  | .hbm, ⟨51, _⟩ => ⟨S16x2048x2x1, .f32⟩
  | .hbm, ⟨52, _⟩ => ⟨S16x2048x2x384, .f32⟩
  | .hbm, ⟨53, _⟩ => ⟨S16x2048x2x384, .f32⟩
  | .hbm, ⟨54, _⟩ => ⟨S16x2048x768, .f32⟩
  | .hbm, ⟨55, _⟩ => ⟨S1x768, .f32⟩
  | .hbm, ⟨56, _⟩ => ⟨S768, .f32⟩
  | .hbm, ⟨57, _⟩ => ⟨S1x1x768, .f32⟩
  | .hbm, ⟨58, _⟩ => ⟨S16x2048x768, .f32⟩
  | .hbm, ⟨59, _⟩ => ⟨S16x2048x768, .f32⟩
  | .hbm, ⟨60, _⟩ => ⟨S16x2048x2048, .f32⟩
  | .hbm, ⟨61, _⟩ => ⟨S1x2048x2048, .f32⟩
  | .hbm, ⟨62, _⟩ => ⟨S2048x2048, .f32⟩
  | .hbm, ⟨63, _⟩ => ⟨S16x2048x2048, .f32⟩
  | .hbm, ⟨64, _⟩ => ⟨S16x2048x2048, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S16x2048x1, .f32⟩
  | .hbm, ⟨75, _⟩ => ⟨S16x2048x2048, .f32⟩
  | .hbm, ⟨76, _⟩ => ⟨S16x2048x2048, .f32⟩
  | .hbm, ⟨77, _⟩ => ⟨S1x2048, .f32⟩
  | .hbm, ⟨78, _⟩ => ⟨S2048, .f32⟩
  | .hbm, ⟨79, _⟩ => ⟨S1x1x2048, .f32⟩
  | .hbm, ⟨80, _⟩ => ⟨S16x2048x2048, .f32⟩
  | .hbm, ⟨81, _⟩ => ⟨S16x2048x2048, .f32⟩
  | .hbm, ⟨82, _⟩ => ⟨S16x2048x2048, .f32⟩
  | .hbm, ⟨83, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_cst_0 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Proof.Flash.Softmax.lean ====
module

public import Idealize.ShloMosaic.PureOps.Ideal.Laws
public import Idealize.ShloMosaic.Lib.IdealHost

@[expose] public section

noncomputable section

open Idealize.ShloMosaic

namespace Cert.Softmax

/-! # A softmax taken block by block, over the extended reals

Scores are real; values may be any extended reals. The blockwise accumulation with running maxima, divided by the same
accumulation of ones, is the softmax-weighted sum of the values: the maxima cancel, whichever they are. -/

/-- The word of minus infinity reads as the least extended real. -/
theorem neg_inf : Ideal.ofBits .f32 0xFF800000#32 = ⊥ := by simp [Ideal.ofBits, Ideal.ieee]

/-- The word of plus infinity reads as the greatest extended real. -/
theorem pos_inf : Ideal.ofBits .f32 0x7F800000#32 = ⊤ := by simp [Ideal.ofBits, Ideal.ieee]

/-- The word of two reads as two. -/
theorem two : Ideal.ofBits .f32 0x40000000#32 = ((2 : ℝ) : EReal) := by
  simp [Ideal.ofBits, Ideal.ieee]; norm_num [← EReal.coe_mul]

/-- The largest of finitely many reals, at least one of them, folded from minus infinity, is a real. -/
theorem fold_max_real {n : ℕ} (f : Fin (n + 1) → EReal) (hf : ∀ k, ∃ x : ℝ, f k = (x : EReal)) :
    ∃ M : ℝ, Finset.univ.fold max (Ideal.ofBits .f32 0xFF800000#32) f = (M : EReal) := by
  rw [neg_inf]
  have h1 : Finset.univ.fold max ⊥ f ≠ ⊥ := by
    obtain ⟨x, hx⟩ := hf 0
    have : f 0 ≤ Finset.univ.fold max ⊥ f := (Finset.le_fold_max _).mpr (Or.inr ⟨0, Finset.mem_univ _, le_rfl⟩)
    intro h
    rw [h, hx] at this
    exact absurd (le_bot_iff.mp this) (EReal.coe_ne_bot x)
  have h2 : Finset.univ.fold max ⊥ f ≠ ⊤ := by
    refine ne_of_lt ((Finset.fold_max_lt _).mpr ⟨bot_lt_top, fun k _ => ?_⟩)
    obtain ⟨x, hx⟩ := hf k
    rw [hx]; exact EReal.coe_lt_top x
  exact ⟨_, (EReal.coe_toReal h2 h1).symm⟩

/-- The larger of two reals is a real. -/
theorem max_real {a b : EReal} (ha : ∃ x : ℝ, a = (x : EReal)) (hb : ∃ x : ℝ, b = (x : EReal)) : ∃ x : ℝ, max a b = (x : EReal) := by
  rcases max_choice a b with h | h
  · rw [h]; exact ha
  · rw [h]; exact hb

/-- Sums of reals are the same among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A sum of products of reals is a real. -/
theorem sum_mul_real {ι : Type*} [Fintype ι] (f g : ι → EReal) (hf : ∀ i, ∃ x : ℝ, f i = (x : EReal)) (hg : ∀ i, ∃ x : ℝ, g i = (x : EReal)) :
    ∃ x : ℝ, ∑ i, f i * g i = (x : EReal) := by
  choose a ha using hf
  choose b hb using hg
  refine ⟨∑ i, a i * b i, ?_⟩
  rw [← coe_sum]
  exact Finset.sum_congr rfl fun i _ => by rw [ha, hb, EReal.coe_mul]

/-- A sum times a real that is not negative is the sum of the products. -/
theorem sum_mul {ι : Type*} (s : Finset ι) (f : ι → EReal) (a : ℝ) (ha : 0 ≤ a) : (∑ i ∈ s, f i) * (a : EReal) = ∑ i ∈ s, f i * (a : EReal) := by
  classical
  induction s using Finset.induction_on with
  | empty => simp
  | insert b s h ih =>
    rw [Finset.sum_insert h, Finset.sum_insert h, ← ih]
    exact EReal.right_distrib_of_nonneg_of_ne_top (by exact_mod_cast ha) (EReal.coe_ne_top a) _ _

/-- Two to the power of a difference of reals. -/
theorem exp2_sub (x y : ℝ) : Ideal.exp2 ((x : EReal) - (y : EReal)) = (((2 : ℝ) ^ (x - y) : ℝ) : EReal) := by
  rw [← EReal.coe_sub]; rfl

/-- The exponential of a scaled difference of reals. -/
theorem exp_sub (x a y : ℝ) : Ideal.exp ((x : EReal) * (a : EReal) - (y : EReal)) = ((Real.exp (x * a - y) : ℝ) : EReal) := by
  rw [← EReal.coe_mul, ← EReal.coe_sub]; rfl

section blocks

variable {C R : Type*} [Fintype C] [Fintype R]

/-- One block's weighted sum, against the reference point `m`. -/
def blockSum (s : R → ℝ) (V : R → EReal) (m : ℝ) : EReal := ∑ r, V r * Ideal.exp2 ((s r : EReal) - (m : EReal))

/-- Moving a block's reference point from `m` to `m'`. -/
theorem rescale (s : R → ℝ) (V : R → EReal) (m m' : ℝ) :
    blockSum s V m * Ideal.exp2 ((m : EReal) - (m' : EReal)) = blockSum s V m' := by
  unfold blockSum
  rw [exp2_sub, sum_mul _ _ _ (Real.rpow_nonneg (by norm_num) _)]
  refine Finset.sum_congr rfl fun r _ => ?_
  rw [exp2_sub, exp2_sub, mul_assoc, ← EReal.coe_mul, ← Real.rpow_add (by norm_num)]
  congr 3; ring

/-- Rescaling a sum rescales its terms. -/
theorem add_rescale (a b : EReal) (m m' : ℝ) :
    (a + b) * Ideal.exp2 ((m : EReal) - (m' : EReal)) = a * Ideal.exp2 ((m : EReal) - (m' : EReal)) + b * Ideal.exp2 ((m : EReal) - (m' : EReal)) := by
  rw [exp2_sub]
  exact EReal.right_distrib_of_nonneg_of_ne_top (by exact_mod_cast Real.rpow_nonneg (by norm_num) _) (EReal.coe_ne_top _) _ _

/-- The accumulation over four blocks with running reference points, after which all refer to the last. -/
theorem accumulate (s : Fin 4 → R → ℝ) (V : Fin 4 → R → EReal) (m0 m1 m2 m3 : ℝ) :
    (((0 + blockSum (s 0) (V 0) m0) * Ideal.exp2 ((m0 : EReal) - (m1 : EReal)) + blockSum (s 1) (V 1) m1) * Ideal.exp2 ((m1 : EReal) - (m2 : EReal))
      + blockSum (s 2) (V 2) m2) * Ideal.exp2 ((m2 : EReal) - (m3 : EReal)) + blockSum (s 3) (V 3) m3 = ∑ c, blockSum (s c) (V c) m3 := by
  simp only [zero_add, add_rescale, rescale, Fin.sum_univ_four]

/-- The weights of the blocks, each divided by all of them together, do not depend on the reference point nor on the base. -/
theorem normalise [Nonempty C] [Nonempty R] (s : C → R → ℝ) (m μ : ℝ) (c : C) (r : R) :
    (2 : ℝ) ^ (s c r - m) * (∑ c, ∑ r, (2 : ℝ) ^ (s c r - m))⁻¹
      = Real.exp (s c r * Real.log 2 - μ) * (∑ c, ∑ r, Real.exp (s c r * Real.log 2 - μ))⁻¹ := by
  have h : ∀ c r, (2 : ℝ) ^ (s c r - m) = Real.exp (s c r * Real.log 2 - μ) * Real.exp (μ - m * Real.log 2) := fun c r => by
    rw [Real.rpow_def_of_pos (by norm_num), ← Real.exp_add]; congr 1; ring
  simp only [h, ← Finset.sum_mul]
  rw [mul_inv, mul_mul_mul_comm, mul_inv_cancel₀ (Real.exp_ne_zero _), mul_one]

/-- **The blockwise accumulation over that of ones is the softmax-weighted sum.** -/
theorem flash [Nonempty R] (s : Fin 4 → R → ℝ) (V : Fin 4 → R → EReal) (m μ : ℝ) :
    Ideal.div (∑ c, blockSum (s c) (V c) m) (∑ c, blockSum (s c) (fun _ => 1) m)
      = ∑ c, ∑ r, V c r * Ideal.div (Ideal.exp ((s c r : EReal) * ((Real.log 2 : ℝ) : EReal) - (μ : EReal)))
          (∑ c, ∑ r, Ideal.exp ((s c r : EReal) * ((Real.log 2 : ℝ) : EReal) - (μ : EReal))) := by
  have hL : (∑ c, blockSum (s c) (fun _ => 1) m) = ((∑ c, ∑ r, (2 : ℝ) ^ (s c r - m) : ℝ) : EReal) := by
    rw [← coe_sum]
    refine Finset.sum_congr rfl fun c _ => ?_
    rw [← coe_sum]
    exact Finset.sum_congr rfl fun r _ => by rw [one_mul, exp2_sub]
  have hE : (∑ c, ∑ r, Ideal.exp ((s c r : EReal) * ((Real.log 2 : ℝ) : EReal) - (μ : EReal)))
      = ((∑ c, ∑ r, Real.exp (s c r * Real.log 2 - μ) : ℝ) : EReal) := by
    rw [← coe_sum]
    refine Finset.sum_congr rfl fun c _ => ?_
    rw [← coe_sum]
    exact Finset.sum_congr rfl fun r _ => by rw [exp_sub]
  have pL : 0 < ∑ c, ∑ r, (2 : ℝ) ^ (s c r - m) :=
    Finset.sum_pos (fun c _ => Finset.sum_pos (fun r _ => Real.rpow_pos_of_pos (by norm_num) _) Finset.univ_nonempty) Finset.univ_nonempty
  have pE : 0 < ∑ c, ∑ r, Real.exp (s c r * Real.log 2 - μ) :=
    Finset.sum_pos (fun c _ => Finset.sum_pos (fun r _ => Real.exp_pos _) Finset.univ_nonempty) Finset.univ_nonempty
  rw [hL, hE]
  unfold Ideal.div
  rw [if_neg (by exact_mod_cast pL.ne'), ← EReal.coe_inv, sum_mul _ _ _ (inv_nonneg.mpr pL.le)]
  refine Finset.sum_congr rfl fun c _ => ?_
  unfold blockSum
  rw [sum_mul _ _ _ (inv_nonneg.mpr pL.le)]
  refine Finset.sum_congr rfl fun r _ => ?_
  rw [if_neg (by exact_mod_cast pE.ne'), exp2_sub, exp_sub, ← EReal.coe_inv, mul_assoc, ← EReal.coe_mul, ← EReal.coe_mul, normalise s m μ c r]

end blocks

/-- A sum over 2048 positions, by blocks of 512. -/
theorem sum_blocks (f : Fin 2048 → EReal) : ∑ k, f k = ∑ c : Fin 4, ∑ r : Fin 512, f ⟨512 * c.val + r.val, by omega⟩ := by
  rw [← Fintype.sum_prod_type']
  refine (Fintype.sum_equiv (finProdFinEquiv (m := 4) (n := 512)) _ _ fun x => ?_).symm
  refine congrArg f (Fin.ext ?_)
  show 512 * x.1.val + x.2.val = x.2.val + 512 * x.1.val
  omega

end Cert.Softmax

end
-- ==== Proof.Flash.Finite.lean ====
module

public import proofs.«01_k».proof.Pre_finite_qk
public import proofs.«01_k».proof.Proof.Flash.Softmax
public import Idealize.ShloMosaic.PureOps.Ideal
public import Idealize.ShloMosaic.Lib.Pointwise

@[expose] public section

set_option maxRecDepth 16384

noncomputable section

open Idealize.ShloMosaic

namespace Cert.Finite

open Cert.Pre_finite_qk

/-- The side conditions of the precondition's operations. -/
theorem facts : Cert.Pre_finite_qk.Facts := ⟨by decide, by decide, by decide⟩

local instance : Cert.Pre_finite_qk.Facts := facts

/-- An extended real whose absolute value is less than plus infinity is a real. -/
theorem real_of_abs (x : EReal) (h : max x (-x) < ⊤) : ∃ r : ℝ, x = (r : EReal) := by
  induction x with
  | bot => simp at h
  | top => simp at h
  | coe r => exact ⟨r, rfl⟩

/-- The comparison of an absolute value with plus infinity. -/
theorem real_of_cmp (x : EReal) (h : Ideal.cmp .olt (max x (-x)) (Ideal.ofBits .f32 0x7F800000#32) = 1#1) :
    ∃ r : ℝ, x = (r : EReal) := by
  rw [Cert.Softmax.pos_inf] at h
  refine real_of_abs x ?_
  by_contra hn
  simp [Ideal.cmp, hn] at h

variable (Q : FVec Ideal S16x1536x2048 .bf16) (K : FVec Ideal S16x2048x1536 .bf16) (V : FVec Ideal S16x6x4x128x512 .bf16)

/-- The precondition says that the queries are real. -/
theorem queries (h : (fn (F := Ideal) Q K V).1 = fun _ => 1#1) (i : S16x1536x2048.Idx) : ∃ r : ℝ, Q i = (r : EReal) :=
  real_of_cmp (Q i) (congrFun h i)

/-- The precondition says that the keys are real. -/
theorem keys (h : (fn (F := Ideal) Q K V).2 = fun _ => 1#1) (i : S16x2048x1536.Idx) : ∃ r : ℝ, K i = (r : EReal) :=
  real_of_cmp (K i) (congrFun h i)

end Cert.Finite

end
-- ==== Proof.Flash.Words.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Flash

open Cert.KernelIdeal Cert.KernelIdeal.Gen

/-! ## What one grid point computes, written over its three blocks -/

/-- The score of key `512 c + r` of the point's keys against query `j` of its queries. -/
def score (x0 : FVec Ideal S1x256x1024 .bf16) (x1 : FVec Ideal S1x2048x256 .bf16) (c : Fin 4) (r : Fin 512) (j : Fin 1024) : EReal :=
  ∑ d : Fin 256, x1 (ix3 0 ⟨512 * c.val + r.val, by omega⟩ d) * x0 (ix3 0 d j)

/-- The largest score of query `j` within key block `c`, taken over eight interleaved groups of 64 keys. -/
def blockMax (x0 : FVec Ideal S1x256x1024 .bf16) (x1 : FVec Ideal S1x2048x256 .bf16) (c : Fin 4) (j : Fin 1024) : EReal :=
  Finset.univ.fold max (Ideal.ofBits .f32 0xFF800000#32) fun a : Fin 8 =>
    Finset.univ.fold max (Ideal.ofBits .f32 0xFF800000#32) fun g : Fin 64 => score x0 x1 c ⟨g.val * 8 + a.val, by omega⟩ j

/-- The running maximum after key block 0. -/
def max0 (x0 : FVec Ideal S1x256x1024 .bf16) (x1 : FVec Ideal S1x2048x256 .bf16) (j : Fin 1024) : EReal :=
  max (Ideal.ofBits .f32 0xFF800000#32) (blockMax x0 x1 0 j)
/-- The running maximum after key block 1. -/
def max1 (x0 : FVec Ideal S1x256x1024 .bf16) (x1 : FVec Ideal S1x2048x256 .bf16) (j : Fin 1024) : EReal :=
  max (max0 x0 x1 j) (blockMax x0 x1 1 j)
/-- The running maximum after key block 2. -/
def max2 (x0 : FVec Ideal S1x256x1024 .bf16) (x1 : FVec Ideal S1x2048x256 .bf16) (j : Fin 1024) : EReal :=
  max (max1 x0 x1 j) (blockMax x0 x1 2 j)
/-- The running maximum after key block 3. -/
def max3 (x0 : FVec Ideal S1x256x1024 .bf16) (x1 : FVec Ideal S1x2048x256 .bf16) (j : Fin 1024) : EReal :=
  max (max2 x0 x1 j) (blockMax x0 x1 3 j)

/-- The weights of a key block: two to the power of the score less a row of maxima. -/
def weight (x0 : FVec Ideal S1x256x1024 .bf16) (x1 : FVec Ideal S1x2048x256 .bf16) (c : Fin 4) (M : Fin 1024 → EReal)
    (r : Fin 512) (j : Fin 1024) : EReal := Ideal.exp2 (score x0 x1 c r j - M j)

/-- Row `i` of the values of key block `c` (the rows from 128 on are ones) weighted and summed over the block. -/
def part (x0 : FVec Ideal S1x256x1024 .bf16) (x1 : FVec Ideal S1x2048x256 .bf16) (x2 : FVec Ideal S1x1x4x144x512 .bf16)
    (c : Fin 4) (M : Fin 1024 → EReal) (i : Fin 144) (j : Fin 1024) : EReal :=
  ∑ r : Fin 512, x2 (ix5 0 0 c i r) * weight x0 x1 c M r j

/-- The accumulator before the last block is added. -/
def acc (x0 : FVec Ideal S1x256x1024 .bf16) (x1 : FVec Ideal S1x2048x256 .bf16) (x2 : FVec Ideal S1x1x4x144x512 .bf16)
    (i : Fin 144) (j : Fin 1024) : EReal :=
  (((0 + part x0 x1 x2 0 (max0 x0 x1) i j) * Ideal.exp2 (max0 x0 x1 j - max1 x0 x1 j)
    + part x0 x1 x2 1 (max1 x0 x1) i j) * Ideal.exp2 (max1 x0 x1 j - max2 x0 x1 j)
    + part x0 x1 x2 2 (max2 x0 x1) i j) * Ideal.exp2 (max2 x0 x1 j - max3 x0 x1 j)
    + part x0 x1 x2 3 (max3 x0 x1) i j

/-! ## The stores and loads of the scratch buffers -/

/-- A chunk of sixteen rows laid over a list of stores: where the earlier stores agree with `G` on the rows before the
    chunk and the chunk agrees with `G` on its own rows, all of them agree with `G` on the rows up to the chunk's end. -/
theorem canon_chunk (G : Fin 512 → Fin 1024 → EReal) (n : ℕ) (hn : n + 16 ≤ 512)
    (inb : ∀ a, (![n, 0] : Fin 2 → ℕ) a + S16x1024.size a ≤ S512x1024.size a)
    (w : S16x1024.Idx → Elt Ideal .bf16) (L : List (View.Piece (Elt Ideal) S512x1024 .bf16))
    (hw : ∀ (a : Fin 16) (j : Fin 1024), w (ix2 a j) = G ⟨n + a.val, by omega⟩ j)
    (hL : ∀ (r : Fin 512) (j : Fin 1024), r.val < n → View.canon L (ix2 r j) = G r j)
    (r : Fin 512) (j : Fin 1024) (hr : r.val < n + 16) :
    View.canon ((⟨Rect.unit (s := S512x1024) ![n, 0] S16x1024.size inb, w⟩ : View.Piece (Elt Ideal) S512x1024 .bf16) :: L) (ix2 r j) = G r j := by
  by_cases hm : n ≤ r.val
  · have e : (Rect.unit (s := S512x1024) ![n, 0] S16x1024.size inb).emb (ix2 (⟨r.val - n, by omega⟩ : Fin 16) j) = ix2 r j := by
      funext a
      apply Fin.ext
      refine (Rect.idx_unit_val _ _ inb _ a).trans ?_
      match a with
      | ⟨0, _⟩ => show n + (r.val - n) = r.val; omega
      | ⟨1, _⟩ => show 0 + j.val = j.val; omega
    rw [← e]
    refine (View.canon_cons_emb (Rect.unit (s := S512x1024) ![n, 0] S16x1024.size inb) w L (ix2 (⟨r.val - n, by omega⟩ : Fin 16) j)).trans ((hw ⟨r.val - n, by omega⟩ j).trans ?_)
    congr 1
    apply Fin.ext; show n + (r.val - n) = r.val; omega
  · refine (View.canon_cons_of_not_mem (⟨Rect.unit (s := S512x1024) ![n, 0] S16x1024.size inb, w⟩ : View.Piece (Elt Ideal) S512x1024 .bf16) L ?_).trans (hL r j (by omega))
    intro h
    have h1 := (Rect.mem_set_unit (s := S512x1024) (off := ![n, 0]) (size := S16x1024.size) (inb := inb) (i := ix2 r j)).mp h 0
    exact hm h1.1

/-- A load of eight rows out of the four blocks of eight, where the store last made is the one of that block. -/
theorem canon_group_hit (k : Fin 4) (n : ℕ) (hk : k.val = n) (inb : ∀ a, (![n, 0, 0] : Fin 3 → ℕ) a + S1x8x1024.size a ≤ S4x8x1024.size a)
    (w : S1x8x1024.Idx → Elt Ideal .f32) (L : List (View.Piece (Elt Ideal) S4x8x1024 .f32)) (a : Fin 8) (j : Fin 1024) :
    View.canon ((⟨Rect.unit (s := S4x8x1024) ![n, 0, 0] S1x8x1024.size inb, w⟩ : View.Piece (Elt Ideal) S4x8x1024 .f32) :: L) (ix3 k a j) = w (ix3 0 a j) := by
  have e : (Rect.unit (s := S4x8x1024) ![n, 0, 0] S1x8x1024.size inb).emb (ix3 (0 : Fin 1) a j) = ix3 k a j := by
    funext b
    apply Fin.ext
    refine (Rect.idx_unit_val _ _ inb _ b).trans ?_
    match b with
    | ⟨0, _⟩ => show n + 0 = k.val; omega
    | ⟨1, _⟩ => show 0 + a.val = a.val; omega
    | ⟨2, _⟩ => show 0 + j.val = j.val; omega
  rw [← e]
  exact View.canon_cons_emb (Rect.unit (s := S4x8x1024) ![n, 0, 0] S1x8x1024.size inb) w L (ix3 (0 : Fin 1) a j)

/-- The same where the store last made is another block's. -/
theorem canon_group_miss (k : Fin 4) (n : ℕ) (hk : k.val ≠ n) (inb : ∀ a, (![n, 0, 0] : Fin 3 → ℕ) a + S1x8x1024.size a ≤ S4x8x1024.size a)
    (w : S1x8x1024.Idx → Elt Ideal .f32) (L : List (View.Piece (Elt Ideal) S4x8x1024 .f32)) (a : Fin 8) (j : Fin 1024) :
    View.canon ((⟨Rect.unit (s := S4x8x1024) ![n, 0, 0] S1x8x1024.size inb, w⟩ : View.Piece (Elt Ideal) S4x8x1024 .f32) :: L) (ix3 k a j) = View.canon L (ix3 k a j) := by
  refine View.canon_cons_of_not_mem (⟨Rect.unit (s := S4x8x1024) ![n, 0, 0] S1x8x1024.size inb, w⟩ : View.Piece (Elt Ideal) S4x8x1024 .f32) L ?_
  intro h
  have h1 := (Rect.mem_set_unit (s := S4x8x1024) (off := ![n, 0, 0]) (size := S1x8x1024.size) (inb := inb) (i := ix3 k a j)).mp h 0
  have h2 : n ≤ k.val := h1.1
  have h3 : k.val < n + 1 := h1.2
  omega

theorem zero2 : (![0, 0] : Fin 2 → ℕ) = fun _ => 0 := funext fun a => by fin_cases a <;> rfl

/-- Where sixteen rows loaded from row `n` on lie. -/
theorem rows_idx (n : ℕ) (hn : n + 16 ≤ 512) (inb : ∀ a, (![n, 0] : Fin 2 → ℕ) a + S16x1024.size a ≤ S512x1024.size a)
    (a : Fin 16) (j : Fin 1024) :
    (Rect.unit (s := S512x1024) ![n, 0] S16x1024.size inb).toLoadRect.idx (ix2 a j) = ix2 (⟨n + a.val, by omega⟩ : Fin 512) j := by
  funext b
  apply Fin.ext
  refine (Rect.idx_unit_val _ _ inb _ b).trans ?_
  match b with
  | ⟨0, _⟩ => rfl
  | ⟨1, _⟩ => show 0 + j.val = j.val; omega

/-- Where a load of the whole buffer reads. -/
theorem whole_idx (inb : ∀ a, (![0, 0] : Fin 2 → ℕ) a + S512x1024.size a ≤ S512x1024.size a) (r : Fin 512) (j : Fin 1024) :
    (Rect.unit (s := S512x1024) ![0, 0] S512x1024.size inb).toLoadRect.idx (ix2 r j) = ix2 r j := by
  funext b
  apply Fin.ext
  refine (Rect.idx_unit_val _ _ inb _ b).trans ?_
  match b with
  | ⟨0, _⟩ => show 0 + r.val = r.val; omega
  | ⟨1, _⟩ => show 0 + j.val = j.val; omega

/-- Where a load of one block's group maxima reads. -/
theorem slot_idx (k : Fin 4) (n : ℕ) (hk : k.val = n) (inb : ∀ a, (![n, 0, 0] : Fin 3 → ℕ) a + S1x8x1024.size a ≤ S4x8x1024.size a)
    (a : Fin 8) (j : Fin 1024) :
    (Rect.unit (s := S4x8x1024) ![n, 0, 0] S1x8x1024.size inb).toLoadRect.idx (ix3 0 a j) = ix3 k a j := by
  funext b
  apply Fin.ext
  refine (Rect.idx_unit_val _ _ inb _ b).trans ?_
  match b with
  | ⟨0, _⟩ => show n + 0 = k.val; omega
  | ⟨1, _⟩ => show 0 + a.val = a.val; omega
  | ⟨2, _⟩ => show 0 + j.val = j.val; omega

/-- One entry of a chunk of weights: two to the power of the score less the row's maximum. -/
theorem weights_pay (m : FVec Ideal S16x1024 .f32) (v : Vec Ideal S16x1024 .f32) (a : Fin 16) (j : Fin 1024) :
    k0_pay15 m v (ix2 a j) = Ideal.exp2 (v (ix2 a j) - m (ix2 a j)) := by
  pointwise [k0_pay15]
  rfl

section words

variable (c : Dev nD) (arg3 : Memref sig .tc .vmem S1x256x1024 .bf16) (harg3 : arg3.IsWhole)
  (arg4 : Memref sig .tc .vmem S1x2048x256 .bf16) (harg4 : arg4.IsWhole)
  (arg5 : Memref sig .tc .vmem S1x1x4x144x512 .bf16) (harg5 : arg5.IsWhole)
  (arg6 : Memref sig .tc .vmem S1x1024x128 .bf16)
  (arg7 arg8 arg9 arg10 : Memref sig .tc .vmem S512x1024 .f32) (arg11 arg12 : Memref sig .tc .vmem S512x1024 .bf16)
  (arg13 : Memref sig .tc .vmem S4x8x1024 .f32) (arg14 : Memref sig .tc .vmem S1x1024 .f32) (arg15 : Memref sig .tc .vmem S144x1024 .f32)
  (x0 : Vec Ideal S1x256x1024 .bf16) (x1 : Vec Ideal S1x2048x256 .bf16) (x2 : Vec Ideal S1x1x4x144x512 .bf16)

/-- The scores stored for key block 0. -/
theorem scores0 (r : Fin 512) (j : Fin 1024) :
    View.canon (kernelRun0_A.sl.HS0_1 (F := Ideal) c arg3 harg3 arg4 harg4 x0 x1) (ix2 r j) = score x0 x1 0 r j := by
  unfold kernelRun0_A.sl.HS0_1
  rw [View.canon_unit_zero zero2]
  simp only [View.readAt_eq_ld, harg3.read_unread, harg4.read_unread]
  pointwise [k0_pay5, k0_pay4, score]

/-- The scores stored for key block 1. -/
theorem scores1 (r : Fin 512) (j : Fin 1024) :
    View.canon (kernelRun0_A.sl.HS1_1 (F := Ideal) c arg3 harg3 arg4 harg4 x0 x1) (ix2 r j) = score x0 x1 1 r j := by
  unfold kernelRun0_A.sl.HS1_1 kernelRun0_A.sl.r
  rw [View.canon_unit_zero zero2]
  simp only [View.readAt_eq_ld, harg3.read_unread, harg4.read_unread]
  pointwise [k0_pay8, k0_pay7, score]

/-- The scores stored for key block 2. -/
theorem scores2 (r : Fin 512) (j : Fin 1024) :
    View.canon (kernelRun0_A.sl.HS2_1 (F := Ideal) c arg3 harg3 arg4 harg4 x0 x1) (ix2 r j) = score x0 x1 2 r j := by
  unfold kernelRun0_A.sl.HS2_1
  rw [View.canon_unit_zero zero2]
  simp only [View.readAt_eq_ld, harg3.read_unread, harg4.read_unread]
  pointwise [k0_pay11, k0_pay10, score]

/-- The scores stored for key block 3. -/
theorem scores3 (r : Fin 512) (j : Fin 1024) :
    View.canon (kernelRun0_A.sl.HS3_1 (F := Ideal) c arg3 harg3 arg4 harg4 x0 x1) (ix2 r j) = score x0 x1 3 r j := by
  unfold kernelRun0_A.sl.HS3_1
  rw [View.canon_unit_zero zero2]
  simp only [View.readAt_eq_ld, harg3.read_unread, harg4.read_unread]
  pointwise [k0_pay49, k0_pay48, score]

/-- The largest score of query `j` among the keys of block `c` whose number is `a` modulo eight. -/
abbrev groupMax (b : Fin 4) (a : Fin 8) (j : Fin 1024) : EReal :=
  Finset.univ.fold max (Ideal.ofBits .f32 0xFF800000#32) fun g : Fin 64 => score x0 x1 b ⟨g.val * 8 + a.val, by omega⟩ j

theorem groups0 (a : Fin 8) (j : Fin 1024) :
    View.canon (kernelRun0_A.sl.HS6_3 (F := Ideal) c arg3 harg3 arg4 harg4 x0 x1) (ix3 0 a j) = groupMax x0 x1 0 a j := by
  unfold kernelRun0_A.sl.HS6_3
  refine (canon_group_miss 0 2 (by decide) _ _ _ a j).trans ((canon_group_miss 0 1 (by decide) _ _ _ a j).trans ((canon_group_hit 0 0 rfl _ _ _ a j).trans ?_))
  simp only [View.readAt_eq_ld, harg3.read_unread, harg4.read_unread]
  pointwise [k0_pay6, k0_pay4, score, groupMax]

theorem groups1 (a : Fin 8) (j : Fin 1024) :
    View.canon (kernelRun0_A.sl.HS6_4 (F := Ideal) c arg3 harg3 arg4 harg4 x0 x1) (ix3 1 a j) = groupMax x0 x1 1 a j := by
  unfold kernelRun0_A.sl.HS6_4 kernelRun0_A.sl.HS6_3
  refine (canon_group_miss 1 3 (by decide) _ _ _ a j).trans ((canon_group_miss 1 2 (by decide) _ _ _ a j).trans ((canon_group_hit 1 1 rfl _ _ _ a j).trans ?_))
  unfold kernelRun0_A.sl.r
  simp only [View.readAt_eq_ld, harg3.read_unread, harg4.read_unread]
  pointwise [k0_pay9, k0_pay7, score, groupMax]

theorem groups2 (a : Fin 8) (j : Fin 1024) :
    View.canon (kernelRun0_A.sl.HS6_4 (F := Ideal) c arg3 harg3 arg4 harg4 x0 x1) (ix3 2 a j) = groupMax x0 x1 2 a j := by
  unfold kernelRun0_A.sl.HS6_4 kernelRun0_A.sl.HS6_3
  refine (canon_group_miss 2 3 (by decide) _ _ _ a j).trans ((canon_group_hit 2 2 rfl _ _ _ a j).trans ?_)
  simp only [View.readAt_eq_ld, harg3.read_unread, harg4.read_unread]
  pointwise [k0_pay12, k0_pay10, score, groupMax]

theorem groups3 (a : Fin 8) (j : Fin 1024) :
    View.canon (kernelRun0_A.sl.HS6_4 (F := Ideal) c arg3 harg3 arg4 harg4 x0 x1) (ix3 3 a j) = groupMax x0 x1 3 a j := by
  unfold kernelRun0_A.sl.HS6_4 kernelRun0_A.sl.HS6_3
  refine (canon_group_hit 3 3 rfl _ _ _ a j).trans ?_
  simp only [View.readAt_eq_ld, harg3.read_unread, harg4.read_unread]
  pointwise [k0_pay50, k0_pay48, score, groupMax]

/-- Sixteen rows of the scores of key block 0, loaded back from row `n` on. -/
theorem load_scores0 (n : ℕ) (hn : n + 16 ≤ 512) (inb : ∀ a, (![n, 0] : Fin 2 → ℕ) a + S16x1024.size a ≤ S512x1024.size a)
    (a : Fin 16) (j : Fin 1024) :
    arg7.view.readCov (kernelRun0_A.sl.HS0_1 (F := Ideal) c arg3 harg3 arg4 harg4 x0 x1) (Rect.unit (s := S512x1024) ![n, 0] S16x1024.size inb).toLoadRect (ix2 a j)
      = score x0 x1 0 ⟨n + a.val, by omega⟩ j := by
  rw [View.readCov_eq_canon']
  refine (congrArg (View.canon (kernelRun0_A.sl.HS0_1 (F := Ideal) c arg3 harg3 arg4 harg4 x0 x1)) (rows_idx n hn inb a j)).trans ?_
  exact scores0 c arg3 harg3 arg4 harg4 x0 x1 _ j

/-- Sixteen rows of the scores of key block 1, loaded back from row `n` on. -/
theorem load_scores1 (n : ℕ) (hn : n + 16 ≤ 512) (inb : ∀ a, (![n, 0] : Fin 2 → ℕ) a + S16x1024.size a ≤ S512x1024.size a)
    (a : Fin 16) (j : Fin 1024) :
    arg8.view.readCov (kernelRun0_A.sl.HS1_1 (F := Ideal) c arg3 harg3 arg4 harg4 x0 x1) (Rect.unit (s := S512x1024) ![n, 0] S16x1024.size inb).toLoadRect (ix2 a j)
      = score x0 x1 1 ⟨n + a.val, by omega⟩ j := by
  rw [View.readCov_eq_canon']
  refine (congrArg (View.canon (kernelRun0_A.sl.HS1_1 (F := Ideal) c arg3 harg3 arg4 harg4 x0 x1)) (rows_idx n hn inb a j)).trans ?_
  exact scores1 c arg3 harg3 arg4 harg4 x0 x1 _ j

/-- Sixteen rows of the scores of key block 2, loaded back from row `n` on. -/
theorem load_scores2 (n : ℕ) (hn : n + 16 ≤ 512) (inb : ∀ a, (![n, 0] : Fin 2 → ℕ) a + S16x1024.size a ≤ S512x1024.size a)
    (a : Fin 16) (j : Fin 1024) :
    arg9.view.readCov (kernelRun0_A.sl.HS2_1 (F := Ideal) c arg3 harg3 arg4 harg4 x0 x1) (Rect.unit (s := S512x1024) ![n, 0] S16x1024.size inb).toLoadRect (ix2 a j)
      = score x0 x1 2 ⟨n + a.val, by omega⟩ j := by
  rw [View.readCov_eq_canon']
  refine (congrArg (View.canon (kernelRun0_A.sl.HS2_1 (F := Ideal) c arg3 harg3 arg4 harg4 x0 x1)) (rows_idx n hn inb a j)).trans ?_
  exact scores2 c arg3 harg3 arg4 harg4 x0 x1 _ j

/-- Sixteen rows of the scores of key block 3, loaded back from row `n` on. -/
theorem load_scores3 (n : ℕ) (hn : n + 16 ≤ 512) (inb : ∀ a, (![n, 0] : Fin 2 → ℕ) a + S16x1024.size a ≤ S512x1024.size a)
    (a : Fin 16) (j : Fin 1024) :
    arg10.view.readCov (kernelRun0_A.sl.HS3_1 (F := Ideal) c arg3 harg3 arg4 harg4 x0 x1) (Rect.unit (s := S512x1024) ![n, 0] S16x1024.size inb).toLoadRect (ix2 a j)
      = score x0 x1 3 ⟨n + a.val, by omega⟩ j := by
  rw [View.readCov_eq_canon']
  refine (congrArg (View.canon (kernelRun0_A.sl.HS3_1 (F := Ideal) c arg3 harg3 arg4 harg4 x0 x1)) (rows_idx n hn inb a j)).trans ?_
  exact scores3 c arg3 harg3 arg4 harg4 x0 x1 _ j

/-- The running maximum as step 0 finds it. -/
theorem oldmax0 (j : Fin 1024) : (kernelRun0_A.sl.v47 (F := Ideal) c arg14) (ix2 0 j) = Ideal.ofBits .f32 0xFF800000#32 := by
  unfold kernelRun0_A.sl.v47 kernelRun0_A.sl.HS7_1
  rw [View.readCov_cons_toLoadRect]
  pointwise [k0_pay2]

/-- The group maxima of key block 0 as step 0 loads them. -/
theorem slot0 (a : Fin 8) (j : Fin 1024) : (kernelRun0_A.sl.v48 (F := Ideal) c arg3 harg3 arg4 harg4 arg13 x0 x1) (ix3 0 a j) = groupMax x0 x1 0 a j := by
  unfold kernelRun0_A.sl.v48
  rw [View.readCov_eq_canon']
  refine (congrArg (View.canon (kernelRun0_A.sl.HS6_3 (F := Ideal) c arg3 harg3 arg4 harg4 x0 x1)) (slot_idx 0 0 rfl _ a j)).trans ?_
  exact groups0 c arg3 harg3 arg4 harg4 x0 x1 a j

/-- The running maximum of step 0. -/
theorem newmax0 (j : Fin 1024) : (kernelRun0_A.sl.r_1 (F := Ideal) c arg3 harg3 arg4 harg4 arg13 arg14 x0 x1) (ix2 0 j) = max0 x0 x1 j := by
  unfold kernelRun0_A.sl.r_1
  pointwise [k0_pay13]
  simp only [oldmax0 c arg14, slot0 c arg3 harg3 arg4 harg4 arg13 x0 x1]
  rfl

/-- The same spread over sixteen rows. -/
theorem rows0 (a : Fin 16) (j : Fin 1024) : (kernelRun0_A.sl.r_2 (F := Ideal) c arg3 harg3 arg4 harg4 arg13 arg14 x0 x1) (ix2 a j) = max0 x0 x1 j := by
  refine Eq.trans ?_ (newmax0 c arg3 harg3 arg4 harg4 arg13 arg14 x0 x1 j)
  unfold kernelRun0_A.sl.r_2 kernelRun0_A.sl.r_1
  pointwise [k0_pay14]

/-- Sixteen rows of the weights of key block 0. -/
theorem chunk0 (n : ℕ) (hn : n + 16 ≤ 512) (inb : ∀ a, (![n, 0] : Fin 2 → ℕ) a + S16x1024.size a ≤ S512x1024.size a)
    (a : Fin 16) (j : Fin 1024) :
    k0_pay15 (kernelRun0_A.sl.r_2 (F := Ideal) c arg3 harg3 arg4 harg4 arg13 arg14 x0 x1) (arg7.view.readCov (kernelRun0_A.sl.HS0_1 (F := Ideal) c arg3 harg3 arg4 harg4 x0 x1) (Rect.unit (s := S512x1024) ![n, 0] S16x1024.size inb).toLoadRect) (ix2 a j)
      = weight x0 x1 0 (max0 x0 x1) ⟨n + a.val, by omega⟩ j := by
  refine (weights_pay _ _ a j).trans ?_
  rw [load_scores0 c arg3 harg3 arg4 harg4 arg7 x0 x1 n hn inb a j, rows0 c arg3 harg3 arg4 harg4 arg13 arg14 x0 x1 a j]
  rfl

/-- The weights of key block 0. -/
theorem weights0 (r : Fin 512) (j : Fin 1024) : View.canon (kernelRun0_A.sl.HS4_32 (F := Ideal) c arg3 harg3 arg4 harg4 arg7 arg13 arg14 x0 x1) (ix2 r j) = weight x0 x1 0 (max0 x0 x1) r j := by
  unfold kernelRun0_A.sl.HS4_32
  refine canon_chunk (weight x0 x1 0 (max0 x0 x1)) 496 (by norm_num) _ _ _ (fun a j => chunk0 c arg3 harg3 arg4 harg4 arg7 arg13 arg14 x0 x1 496 (by norm_num) _ a j) (fun r j hr => ?_) r j (by omega)
  refine canon_chunk (weight x0 x1 0 (max0 x0 x1)) 480 (by norm_num) _ _ _ (fun a j => chunk0 c arg3 harg3 arg4 harg4 arg7 arg13 arg14 x0 x1 480 (by norm_num) _ a j) (fun r j hr => ?_) r j (by omega)
  refine canon_chunk (weight x0 x1 0 (max0 x0 x1)) 464 (by norm_num) _ _ _ (fun a j => chunk0 c arg3 harg3 arg4 harg4 arg7 arg13 arg14 x0 x1 464 (by norm_num) _ a j) (fun r j hr => ?_) r j (by omega)
  refine canon_chunk (weight x0 x1 0 (max0 x0 x1)) 448 (by norm_num) _ _ _ (fun a j => chunk0 c arg3 harg3 arg4 harg4 arg7 arg13 arg14 x0 x1 448 (by norm_num) _ a j) (fun r j hr => ?_) r j (by omega)
  refine canon_chunk (weight x0 x1 0 (max0 x0 x1)) 432 (by norm_num) _ _ _ (fun a j => chunk0 c arg3 harg3 arg4 harg4 arg7 arg13 arg14 x0 x1 432 (by norm_num) _ a j) (fun r j hr => ?_) r j (by omega)
  refine canon_chunk (weight x0 x1 0 (max0 x0 x1)) 416 (by norm_num) _ _ _ (fun a j => chunk0 c arg3 harg3 arg4 harg4 arg7 arg13 arg14 x0 x1 416 (by norm_num) _ a j) (fun r j hr => ?_) r j (by omega)
  refine canon_chunk (weight x0 x1 0 (max0 x0 x1)) 400 (by norm_num) _ _ _ (fun a j => chunk0 c arg3 harg3 arg4 harg4 arg7 arg13 arg14 x0 x1 400 (by norm_num) _ a j) (fun r j hr => ?_) r j (by omega)
  refine canon_chunk (weight x0 x1 0 (max0 x0 x1)) 384 (by norm_num) _ _ _ (fun a j => chunk0 c arg3 harg3 arg4 harg4 arg7 arg13 arg14 x0 x1 384 (by norm_num) _ a j) (fun r j hr => ?_) r j (by omega)
  refine canon_chunk (weight x0 x1 0 (max0 x0 x1)) 368 (by norm_num) _ _ _ (fun a j => chunk0 c arg3 harg3 arg4 harg4 arg7 arg13 arg14 x0 x1 368 (by norm_num) _ a j) (fun r j hr => ?_) r j (by omega)
  refine canon_chunk (weight x0 x1 0 (max0 x0 x1)) 352 (by norm_num) _ _ _ (fun a j => chunk0 c arg3 harg3 arg4 harg4 arg7 arg13 arg14 x0 x1 352 (by norm_num) _ a j) (fun r j hr => ?_) r j (by omega)
  refine canon_chunk (weight x0 x1 0 (max0 x0 x1)) 336 (by norm_num) _ _ _ (fun a j => chunk0 c arg3 harg3 arg4 harg4 arg7 arg13 arg14 x0 x1 336 (by norm_num) _ a j) (fun r j hr => ?_) r j (by omega)
  refine canon_chunk (weight x0 x1 0 (max0 x0 x1)) 320 (by norm_num) _ _ _ (fun a j => chunk0 c arg3 harg3 arg4 harg4 arg7 arg13 arg14 x0 x1 320 (by norm_num) _ a j) (fun r j hr => ?_) r j (by omega)
  refine canon_chunk (weight x0 x1 0 (max0 x0 x1)) 304 (by norm_num) _ _ _ (fun a j => chunk0 c arg3 harg3 arg4 harg4 arg7 arg13 arg14 x0 x1 304 (by norm_num) _ a j) (fun r j hr => ?_) r j (by omega)
  refine canon_chunk (weight x0 x1 0 (max0 x0 x1)) 288 (by norm_num) _ _ _ (fun a j => chunk0 c arg3 harg3 arg4 harg4 arg7 arg13 arg14 x0 x1 288 (by norm_num) _ a j) (fun r j hr => ?_) r j (by omega)
  refine canon_chunk (weight x0 x1 0 (max0 x0 x1)) 272 (by norm_num) _ _ _ (fun a j => chunk0 c arg3 harg3 arg4 harg4 arg7 arg13 arg14 x0 x1 272 (by norm_num) _ a j) (fun r j hr => ?_) r j (by omega)
  refine canon_chunk (weight x0 x1 0 (max0 x0 x1)) 256 (by norm_num) _ _ _ (fun a j => chunk0 c arg3 harg3 arg4 harg4 arg7 arg13 arg14 x0 x1 256 (by norm_num) _ a j) (fun r j hr => ?_) r j (by omega)
  refine canon_chunk (weight x0 x1 0 (max0 x0 x1)) 240 (by norm_num) _ _ _ (fun a j => chunk0 c arg3 harg3 arg4 harg4 arg7 arg13 arg14 x0 x1 240 (by norm_num) _ a j) (fun r j hr => ?_) r j (by omega)
  refine canon_chunk (weight x0 x1 0 (max0 x0 x1)) 224 (by norm_num) _ _ _ (fun a j => chunk0 c arg3 harg3 arg4 harg4 arg7 arg13 arg14 x0 x1 224 (by norm_num) _ a j) (fun r j hr => ?_) r j (by omega)
  refine canon_chunk (weight x0 x1 0 (max0 x0 x1)) 208 (by norm_num) _ _ _ (fun a j => chunk0 c arg3 harg3 arg4 harg4 arg7 arg13 arg14 x0 x1 208 (by norm_num) _ a j) (fun r j hr => ?_) r j (by omega)
  refine canon_chunk (weight x0 x1 0 (max0 x0 x1)) 192 (by norm_num) _ _ _ (fun a j => chunk0 c arg3 harg3 arg4 harg4 arg7 arg13 arg14 x0 x1 192 (by norm_num) _ a j) (fun r j hr => ?_) r j (by omega)
  refine canon_chunk (weight x0 x1 0 (max0 x0 x1)) 176 (by norm_num) _ _ _ (fun a j => chunk0 c arg3 harg3 arg4 harg4 arg7 arg13 arg14 x0 x1 176 (by norm_num) _ a j) (fun r j hr => ?_) r j (by omega)
  refine canon_chunk (weight x0 x1 0 (max0 x0 x1)) 160 (by norm_num) _ _ _ (fun a j => chunk0 c arg3 harg3 arg4 harg4 arg7 arg13 arg14 x0 x1 160 (by norm_num) _ a j) (fun r j hr => ?_) r j (by omega)
  refine canon_chunk (weight x0 x1 0 (max0 x0 x1)) 144 (by norm_num) _ _ _ (fun a j => chunk0 c arg3 harg3 arg4 harg4 arg7 arg13 arg14 x0 x1 144 (by norm_num) _ a j) (fun r j hr => ?_) r j (by omega)
  refine canon_chunk (weight x0 x1 0 (max0 x0 x1)) 128 (by norm_num) _ _ _ (fun a j => chunk0 c arg3 harg3 arg4 harg4 arg7 arg13 arg14 x0 x1 128 (by norm_num) _ a j) (fun r j hr => ?_) r j (by omega)
  refine canon_chunk (weight x0 x1 0 (max0 x0 x1)) 112 (by norm_num) _ _ _ (fun a j => chunk0 c arg3 harg3 arg4 harg4 arg7 arg13 arg14 x0 x1 112 (by norm_num) _ a j) (fun r j hr => ?_) r j (by omega)
  refine canon_chunk (weight x0 x1 0 (max0 x0 x1)) 96 (by norm_num) _ _ _ (fun a j => chunk0 c arg3 harg3 arg4 harg4 arg7 arg13 arg14 x0 x1 96 (by norm_num) _ a j) (fun r j hr => ?_) r j (by omega)
  refine canon_chunk (weight x0 x1 0 (max0 x0 x1)) 80 (by norm_num) _ _ _ (fun a j => chunk0 c arg3 harg3 arg4 harg4 arg7 arg13 arg14 x0 x1 80 (by norm_num) _ a j) (fun r j hr => ?_) r j (by omega)
  refine canon_chunk (weight x0 x1 0 (max0 x0 x1)) 64 (by norm_num) _ _ _ (fun a j => chunk0 c arg3 harg3 arg4 harg4 arg7 arg13 arg14 x0 x1 64 (by norm_num) _ a j) (fun r j hr => ?_) r j (by omega)
  refine canon_chunk (weight x0 x1 0 (max0 x0 x1)) 48 (by norm_num) _ _ _ (fun a j => chunk0 c arg3 harg3 arg4 harg4 arg7 arg13 arg14 x0 x1 48 (by norm_num) _ a j) (fun r j hr => ?_) r j (by omega)
  refine canon_chunk (weight x0 x1 0 (max0 x0 x1)) 32 (by norm_num) _ _ _ (fun a j => chunk0 c arg3 harg3 arg4 harg4 arg7 arg13 arg14 x0 x1 32 (by norm_num) _ a j) (fun r j hr => ?_) r j (by omega)
  refine canon_chunk (weight x0 x1 0 (max0 x0 x1)) 16 (by norm_num) _ _ _ (fun a j => chunk0 c arg3 harg3 arg4 harg4 arg7 arg13 arg14 x0 x1 16 (by norm_num) _ a j) (fun r j hr => ?_) r j (by omega)
  refine canon_chunk (weight x0 x1 0 (max0 x0 x1)) 0 (by norm_num) _ _ _ (fun a j => chunk0 c arg3 harg3 arg4 harg4 arg7 arg13 arg14 x0 x1 0 (by norm_num) _ a j) (fun r j hr => ?_) r j (by omega)
  omega

/-- The running maximum as step 1 finds it. -/
theorem oldmax1 (j : Fin 1024) : (kernelRun0_A.sl.v299 (F := Ideal) c arg3 harg3 arg4 harg4 arg13 arg14 x0 x1) (ix2 0 j) = max0 x0 x1 j := by
  unfold kernelRun0_A.sl.v299 kernelRun0_A.sl.HS7_2
  rw [View.readCov_cons_toLoadRect]
  exact (by pointwise [k0_pay47] : _ = (kernelRun0_A.sl.r_1 (F := Ideal) c arg3 harg3 arg4 harg4 arg13 arg14 x0 x1) (ix2 0 j)).trans (newmax0 c arg3 harg3 arg4 harg4 arg13 arg14 x0 x1 j)

/-- The group maxima of key block 1 as step 1 loads them. -/
theorem slot1 (a : Fin 8) (j : Fin 1024) : (kernelRun0_A.sl.v300 (F := Ideal) c arg3 harg3 arg4 harg4 arg13 x0 x1) (ix3 0 a j) = groupMax x0 x1 1 a j := by
  unfold kernelRun0_A.sl.v300
  rw [View.readCov_eq_canon']
  refine (congrArg (View.canon (kernelRun0_A.sl.HS6_4 (F := Ideal) c arg3 harg3 arg4 harg4 x0 x1)) (slot_idx 1 1 rfl _ a j)).trans ?_
  exact groups1 c arg3 harg3 arg4 harg4 x0 x1 a j

/-- The running maximum of step 1. -/
theorem newmax1 (j : Fin 1024) : (kernelRun0_A.sl.r_4 (F := Ideal) c arg3 harg3 arg4 harg4 arg13 arg14 x0 x1) (ix2 0 j) = max1 x0 x1 j := by
  unfold kernelRun0_A.sl.r_4
  pointwise [k0_pay52]
  simp only [oldmax1 c arg3 harg3 arg4 harg4 arg13 arg14 x0 x1, slot1 c arg3 harg3 arg4 harg4 arg13 x0 x1]
  rfl

/-- The same spread over sixteen rows. -/
theorem rows1 (a : Fin 16) (j : Fin 1024) : (kernelRun0_A.sl.r_6 (F := Ideal) c arg3 harg3 arg4 harg4 arg13 arg14 x0 x1) (ix2 a j) = max1 x0 x1 j := by
  refine Eq.trans ?_ (newmax1 c arg3 harg3 arg4 harg4 arg13 arg14 x0 x1 j)
  unfold kernelRun0_A.sl.r_6 kernelRun0_A.sl.r_4
  pointwise [k0_pay54]

/-- The factor by which step 1 rescales what was summed before it. -/
theorem alpha1 (j : Fin 1024) : (kernelRun0_A.sl.r_5 (F := Ideal) c arg3 harg3 arg4 harg4 arg13 arg14 x0 x1) (ix2 0 j) = Ideal.exp2 (max0 x0 x1 j - max1 x0 x1 j) := by
  have h1 := oldmax1 c arg3 harg3 arg4 harg4 arg13 arg14 x0 x1 j
  have h2 := newmax1 c arg3 harg3 arg4 harg4 arg13 arg14 x0 x1 j
  unfold kernelRun0_A.sl.r_4 at h2
  unfold kernelRun0_A.sl.r_5
  rw [← h1, ← h2]
  pointwise [k0_pay53]
  rfl

/-- Sixteen rows of the weights of key block 1. -/
theorem chunk1 (n : ℕ) (hn : n + 16 ≤ 512) (inb : ∀ a, (![n, 0] : Fin 2 → ℕ) a + S16x1024.size a ≤ S512x1024.size a)
    (a : Fin 16) (j : Fin 1024) :
    k0_pay15 (kernelRun0_A.sl.r_6 (F := Ideal) c arg3 harg3 arg4 harg4 arg13 arg14 x0 x1) (arg8.view.readCov (kernelRun0_A.sl.HS1_1 (F := Ideal) c arg3 harg3 arg4 harg4 x0 x1) (Rect.unit (s := S512x1024) ![n, 0] S16x1024.size inb).toLoadRect) (ix2 a j)
      = weight x0 x1 1 (max1 x0 x1) ⟨n + a.val, by omega⟩ j := by
  refine (weights_pay _ _ a j).trans ?_
  rw [load_scores1 c arg3 harg3 arg4 harg4 arg8 x0 x1 n hn inb a j, rows1 c arg3 harg3 arg4 harg4 arg13 arg14 x0 x1 a j]
  rfl

/-- The weights of key block 1. -/
theorem weights1 (r : Fin 512) (j : Fin 1024) : View.canon (kernelRun0_A.sl.HS5_32 (F := Ideal) c arg3 harg3 arg4 harg4 arg8 arg13 arg14 x0 x1) (ix2 r j) = weight x0 x1 1 (max1 x0 x1) r j := by
  unfold kernelRun0_A.sl.HS5_32
  refine canon_chunk (weight x0 x1 1 (max1 x0 x1)) 496 (by norm_num) _ _ _ (fun a j => chunk1 c arg3 harg3 arg4 harg4 arg8 arg13 arg14 x0 x1 496 (by norm_num) _ a j) (fun r j hr => ?_) r j (by omega)
  refine canon_chunk (weight x0 x1 1 (max1 x0 x1)) 480 (by norm_num) _ _ _ (fun a j => chunk1 c arg3 harg3 arg4 harg4 arg8 arg13 arg14 x0 x1 480 (by norm_num) _ a j) (fun r j hr => ?_) r j (by omega)
  refine canon_chunk (weight x0 x1 1 (max1 x0 x1)) 464 (by norm_num) _ _ _ (fun a j => chunk1 c arg3 harg3 arg4 harg4 arg8 arg13 arg14 x0 x1 464 (by norm_num) _ a j) (fun r j hr => ?_) r j (by omega)
  refine canon_chunk (weight x0 x1 1 (max1 x0 x1)) 448 (by norm_num) _ _ _ (fun a j => chunk1 c arg3 harg3 arg4 harg4 arg8 arg13 arg14 x0 x1 448 (by norm_num) _ a j) (fun r j hr => ?_) r j (by omega)
  refine canon_chunk (weight x0 x1 1 (max1 x0 x1)) 432 (by norm_num) _ _ _ (fun a j => chunk1 c arg3 harg3 arg4 harg4 arg8 arg13 arg14 x0 x1 432 (by norm_num) _ a j) (fun r j hr => ?_) r j (by omega)
  refine canon_chunk (weight x0 x1 1 (max1 x0 x1)) 416 (by norm_num) _ _ _ (fun a j => chunk1 c arg3 harg3 arg4 harg4 arg8 arg13 arg14 x0 x1 416 (by norm_num) _ a j) (fun r j hr => ?_) r j (by omega)
  refine canon_chunk (weight x0 x1 1 (max1 x0 x1)) 400 (by norm_num) _ _ _ (fun a j => chunk1 c arg3 harg3 arg4 harg4 arg8 arg13 arg14 x0 x1 400 (by norm_num) _ a j) (fun r j hr => ?_) r j (by omega)
  refine canon_chunk (weight x0 x1 1 (max1 x0 x1)) 384 (by norm_num) _ _ _ (fun a j => chunk1 c arg3 harg3 arg4 harg4 arg8 arg13 arg14 x0 x1 384 (by norm_num) _ a j) (fun r j hr => ?_) r j (by omega)
  refine canon_chunk (weight x0 x1 1 (max1 x0 x1)) 368 (by norm_num) _ _ _ (fun a j => chunk1 c arg3 harg3 arg4 harg4 arg8 arg13 arg14 x0 x1 368 (by norm_num) _ a j) (fun r j hr => ?_) r j (by omega)
  refine canon_chunk (weight x0 x1 1 (max1 x0 x1)) 352 (by norm_num) _ _ _ (fun a j => chunk1 c arg3 harg3 arg4 harg4 arg8 arg13 arg14 x0 x1 352 (by norm_num) _ a j) (fun r j hr => ?_) r j (by omega)
  refine canon_chunk (weight x0 x1 1 (max1 x0 x1)) 336 (by norm_num) _ _ _ (fun a j => chunk1 c arg3 harg3 arg4 harg4 arg8 arg13 arg14 x0 x1 336 (by norm_num) _ a j) (fun r j hr => ?_) r j (by omega)
  refine canon_chunk (weight x0 x1 1 (max1 x0 x1)) 320 (by norm_num) _ _ _ (fun a j => chunk1 c arg3 harg3 arg4 harg4 arg8 arg13 arg14 x0 x1 320 (by norm_num) _ a j) (fun r j hr => ?_) r j (by omega)
  refine canon_chunk (weight x0 x1 1 (max1 x0 x1)) 304 (by norm_num) _ _ _ (fun a j => chunk1 c arg3 harg3 arg4 harg4 arg8 arg13 arg14 x0 x1 304 (by norm_num) _ a j) (fun r j hr => ?_) r j (by omega)
  refine canon_chunk (weight x0 x1 1 (max1 x0 x1)) 288 (by norm_num) _ _ _ (fun a j => chunk1 c arg3 harg3 arg4 harg4 arg8 arg13 arg14 x0 x1 288 (by norm_num) _ a j) (fun r j hr => ?_) r j (by omega)
  refine canon_chunk (weight x0 x1 1 (max1 x0 x1)) 272 (by norm_num) _ _ _ (fun a j => chunk1 c arg3 harg3 arg4 harg4 arg8 arg13 arg14 x0 x1 272 (by norm_num) _ a j) (fun r j hr => ?_) r j (by omega)
  refine canon_chunk (weight x0 x1 1 (max1 x0 x1)) 256 (by norm_num) _ _ _ (fun a j => chunk1 c arg3 harg3 arg4 harg4 arg8 arg13 arg14 x0 x1 256 (by norm_num) _ a j) (fun r j hr => ?_) r j (by omega)
  refine canon_chunk (weight x0 x1 1 (max1 x0 x1)) 240 (by norm_num) _ _ _ (fun a j => chunk1 c arg3 harg3 arg4 harg4 arg8 arg13 arg14 x0 x1 240 (by norm_num) _ a j) (fun r j hr => ?_) r j (by omega)
  refine canon_chunk (weight x0 x1 1 (max1 x0 x1)) 224 (by norm_num) _ _ _ (fun a j => chunk1 c arg3 harg3 arg4 harg4 arg8 arg13 arg14 x0 x1 224 (by norm_num) _ a j) (fun r j hr => ?_) r j (by omega)
  refine canon_chunk (weight x0 x1 1 (max1 x0 x1)) 208 (by norm_num) _ _ _ (fun a j => chunk1 c arg3 harg3 arg4 harg4 arg8 arg13 arg14 x0 x1 208 (by norm_num) _ a j) (fun r j hr => ?_) r j (by omega)
  refine canon_chunk (weight x0 x1 1 (max1 x0 x1)) 192 (by norm_num) _ _ _ (fun a j => chunk1 c arg3 harg3 arg4 harg4 arg8 arg13 arg14 x0 x1 192 (by norm_num) _ a j) (fun r j hr => ?_) r j (by omega)
  refine canon_chunk (weight x0 x1 1 (max1 x0 x1)) 176 (by norm_num) _ _ _ (fun a j => chunk1 c arg3 harg3 arg4 harg4 arg8 arg13 arg14 x0 x1 176 (by norm_num) _ a j) (fun r j hr => ?_) r j (by omega)
  refine canon_chunk (weight x0 x1 1 (max1 x0 x1)) 160 (by norm_num) _ _ _ (fun a j => chunk1 c arg3 harg3 arg4 harg4 arg8 arg13 arg14 x0 x1 160 (by norm_num) _ a j) (fun r j hr => ?_) r j (by omega)
  refine canon_chunk (weight x0 x1 1 (max1 x0 x1)) 144 (by norm_num) _ _ _ (fun a j => chunk1 c arg3 harg3 arg4 harg4 arg8 arg13 arg14 x0 x1 144 (by norm_num) _ a j) (fun r j hr => ?_) r j (by omega)
  refine canon_chunk (weight x0 x1 1 (max1 x0 x1)) 128 (by norm_num) _ _ _ (fun a j => chunk1 c arg3 harg3 arg4 harg4 arg8 arg13 arg14 x0 x1 128 (by norm_num) _ a j) (fun r j hr => ?_) r j (by omega)
  refine canon_chunk (weight x0 x1 1 (max1 x0 x1)) 112 (by norm_num) _ _ _ (fun a j => chunk1 c arg3 harg3 arg4 harg4 arg8 arg13 arg14 x0 x1 112 (by norm_num) _ a j) (fun r j hr => ?_) r j (by omega)
  refine canon_chunk (weight x0 x1 1 (max1 x0 x1)) 96 (by norm_num) _ _ _ (fun a j => chunk1 c arg3 harg3 arg4 harg4 arg8 arg13 arg14 x0 x1 96 (by norm_num) _ a j) (fun r j hr => ?_) r j (by omega)
  refine canon_chunk (weight x0 x1 1 (max1 x0 x1)) 80 (by norm_num) _ _ _ (fun a j => chunk1 c arg3 harg3 arg4 harg4 arg8 arg13 arg14 x0 x1 80 (by norm_num) _ a j) (fun r j hr => ?_) r j (by omega)
  refine canon_chunk (weight x0 x1 1 (max1 x0 x1)) 64 (by norm_num) _ _ _ (fun a j => chunk1 c arg3 harg3 arg4 harg4 arg8 arg13 arg14 x0 x1 64 (by norm_num) _ a j) (fun r j hr => ?_) r j (by omega)
  refine canon_chunk (weight x0 x1 1 (max1 x0 x1)) 48 (by norm_num) _ _ _ (fun a j => chunk1 c arg3 harg3 arg4 harg4 arg8 arg13 arg14 x0 x1 48 (by norm_num) _ a j) (fun r j hr => ?_) r j (by omega)
  refine canon_chunk (weight x0 x1 1 (max1 x0 x1)) 32 (by norm_num) _ _ _ (fun a j => chunk1 c arg3 harg3 arg4 harg4 arg8 arg13 arg14 x0 x1 32 (by norm_num) _ a j) (fun r j hr => ?_) r j (by omega)
  refine canon_chunk (weight x0 x1 1 (max1 x0 x1)) 16 (by norm_num) _ _ _ (fun a j => chunk1 c arg3 harg3 arg4 harg4 arg8 arg13 arg14 x0 x1 16 (by norm_num) _ a j) (fun r j hr => ?_) r j (by omega)
  refine canon_chunk (weight x0 x1 1 (max1 x0 x1)) 0 (by norm_num) _ _ _ (fun a j => chunk1 c arg3 harg3 arg4 harg4 arg8 arg13 arg14 x0 x1 0 (by norm_num) _ a j) (fun r j hr => ?_) r j (by omega)
  omega

/-- The running maximum as step 2 finds it. -/
theorem oldmax2 (j : Fin 1024) : (kernelRun0_A.sl.v547 (F := Ideal) c arg3 harg3 arg4 harg4 arg13 arg14 x0 x1) (ix2 0 j) = max1 x0 x1 j := by
  unfold kernelRun0_A.sl.v547 kernelRun0_A.sl.HS7_3
  rw [View.readCov_cons_toLoadRect]
  exact (by pointwise [k0_pay87] : _ = (kernelRun0_A.sl.r_4 (F := Ideal) c arg3 harg3 arg4 harg4 arg13 arg14 x0 x1) (ix2 0 j)).trans (newmax1 c arg3 harg3 arg4 harg4 arg13 arg14 x0 x1 j)

/-- The group maxima of key block 2 as step 2 loads them. -/
theorem slot2 (a : Fin 8) (j : Fin 1024) : (kernelRun0_A.sl.v548 (F := Ideal) c arg3 harg3 arg4 harg4 arg13 x0 x1) (ix3 0 a j) = groupMax x0 x1 2 a j := by
  unfold kernelRun0_A.sl.v548
  rw [View.readCov_eq_canon']
  refine (congrArg (View.canon (kernelRun0_A.sl.HS6_4 (F := Ideal) c arg3 harg3 arg4 harg4 x0 x1)) (slot_idx 2 2 rfl _ a j)).trans ?_
  exact groups2 c arg3 harg3 arg4 harg4 x0 x1 a j

/-- The running maximum of step 2. -/
theorem newmax2 (j : Fin 1024) : (kernelRun0_A.sl.r_9 (F := Ideal) c arg3 harg3 arg4 harg4 arg13 arg14 x0 x1) (ix2 0 j) = max2 x0 x1 j := by
  unfold kernelRun0_A.sl.r_9
  pointwise [k0_pay91]
  simp only [oldmax2 c arg3 harg3 arg4 harg4 arg13 arg14 x0 x1, slot2 c arg3 harg3 arg4 harg4 arg13 x0 x1]
  rfl

/-- The same spread over sixteen rows. -/
theorem rows2 (a : Fin 16) (j : Fin 1024) : (kernelRun0_A.sl.r_11 (F := Ideal) c arg3 harg3 arg4 harg4 arg13 arg14 x0 x1) (ix2 a j) = max2 x0 x1 j := by
  refine Eq.trans ?_ (newmax2 c arg3 harg3 arg4 harg4 arg13 arg14 x0 x1 j)
  unfold kernelRun0_A.sl.r_11 kernelRun0_A.sl.r_9
  pointwise [k0_pay93]

/-- The factor by which step 2 rescales what was summed before it. -/
theorem alpha2 (j : Fin 1024) : (kernelRun0_A.sl.r_10 (F := Ideal) c arg3 harg3 arg4 harg4 arg13 arg14 x0 x1) (ix2 0 j) = Ideal.exp2 (max1 x0 x1 j - max2 x0 x1 j) := by
  have h1 := oldmax2 c arg3 harg3 arg4 harg4 arg13 arg14 x0 x1 j
  have h2 := newmax2 c arg3 harg3 arg4 harg4 arg13 arg14 x0 x1 j
  unfold kernelRun0_A.sl.r_9 at h2
  unfold kernelRun0_A.sl.r_10
  rw [← h1, ← h2]
  pointwise [k0_pay92]
  rfl

/-- Sixteen rows of the weights of key block 2. -/
theorem chunk2 (n : ℕ) (hn : n + 16 ≤ 512) (inb : ∀ a, (![n, 0] : Fin 2 → ℕ) a + S16x1024.size a ≤ S512x1024.size a)
    (a : Fin 16) (j : Fin 1024) :
    k0_pay15 (kernelRun0_A.sl.r_11 (F := Ideal) c arg3 harg3 arg4 harg4 arg13 arg14 x0 x1) (arg9.view.readCov (kernelRun0_A.sl.HS2_1 (F := Ideal) c arg3 harg3 arg4 harg4 x0 x1) (Rect.unit (s := S512x1024) ![n, 0] S16x1024.size inb).toLoadRect) (ix2 a j)
      = weight x0 x1 2 (max2 x0 x1) ⟨n + a.val, by omega⟩ j := by
  refine (weights_pay _ _ a j).trans ?_
  rw [load_scores2 c arg3 harg3 arg4 harg4 arg9 x0 x1 n hn inb a j, rows2 c arg3 harg3 arg4 harg4 arg13 arg14 x0 x1 a j]
  rfl

/-- The weights of key block 2. -/
theorem weights2 (r : Fin 512) (j : Fin 1024) : View.canon (kernelRun0_A.sl.HS4_64 (F := Ideal) c arg3 harg3 arg4 harg4 arg7 arg9 arg13 arg14 x0 x1) (ix2 r j) = weight x0 x1 2 (max2 x0 x1) r j := by
  unfold kernelRun0_A.sl.HS4_64
  refine canon_chunk (weight x0 x1 2 (max2 x0 x1)) 496 (by norm_num) _ _ _ (fun a j => chunk2 c arg3 harg3 arg4 harg4 arg9 arg13 arg14 x0 x1 496 (by norm_num) _ a j) (fun r j hr => ?_) r j (by omega)
  refine canon_chunk (weight x0 x1 2 (max2 x0 x1)) 480 (by norm_num) _ _ _ (fun a j => chunk2 c arg3 harg3 arg4 harg4 arg9 arg13 arg14 x0 x1 480 (by norm_num) _ a j) (fun r j hr => ?_) r j (by omega)
  refine canon_chunk (weight x0 x1 2 (max2 x0 x1)) 464 (by norm_num) _ _ _ (fun a j => chunk2 c arg3 harg3 arg4 harg4 arg9 arg13 arg14 x0 x1 464 (by norm_num) _ a j) (fun r j hr => ?_) r j (by omega)
  refine canon_chunk (weight x0 x1 2 (max2 x0 x1)) 448 (by norm_num) _ _ _ (fun a j => chunk2 c arg3 harg3 arg4 harg4 arg9 arg13 arg14 x0 x1 448 (by norm_num) _ a j) (fun r j hr => ?_) r j (by omega)
  refine canon_chunk (weight x0 x1 2 (max2 x0 x1)) 432 (by norm_num) _ _ _ (fun a j => chunk2 c arg3 harg3 arg4 harg4 arg9 arg13 arg14 x0 x1 432 (by norm_num) _ a j) (fun r j hr => ?_) r j (by omega)
  refine canon_chunk (weight x0 x1 2 (max2 x0 x1)) 416 (by norm_num) _ _ _ (fun a j => chunk2 c arg3 harg3 arg4 harg4 arg9 arg13 arg14 x0 x1 416 (by norm_num) _ a j) (fun r j hr => ?_) r j (by omega)
  refine canon_chunk (weight x0 x1 2 (max2 x0 x1)) 400 (by norm_num) _ _ _ (fun a j => chunk2 c arg3 harg3 arg4 harg4 arg9 arg13 arg14 x0 x1 400 (by norm_num) _ a j) (fun r j hr => ?_) r j (by omega)
  refine canon_chunk (weight x0 x1 2 (max2 x0 x1)) 384 (by norm_num) _ _ _ (fun a j => chunk2 c arg3 harg3 arg4 harg4 arg9 arg13 arg14 x0 x1 384 (by norm_num) _ a j) (fun r j hr => ?_) r j (by omega)
  refine canon_chunk (weight x0 x1 2 (max2 x0 x1)) 368 (by norm_num) _ _ _ (fun a j => chunk2 c arg3 harg3 arg4 harg4 arg9 arg13 arg14 x0 x1 368 (by norm_num) _ a j) (fun r j hr => ?_) r j (by omega)
  refine canon_chunk (weight x0 x1 2 (max2 x0 x1)) 352 (by norm_num) _ _ _ (fun a j => chunk2 c arg3 harg3 arg4 harg4 arg9 arg13 arg14 x0 x1 352 (by norm_num) _ a j) (fun r j hr => ?_) r j (by omega)
  refine canon_chunk (weight x0 x1 2 (max2 x0 x1)) 336 (by norm_num) _ _ _ (fun a j => chunk2 c arg3 harg3 arg4 harg4 arg9 arg13 arg14 x0 x1 336 (by norm_num) _ a j) (fun r j hr => ?_) r j (by omega)
  refine canon_chunk (weight x0 x1 2 (max2 x0 x1)) 320 (by norm_num) _ _ _ (fun a j => chunk2 c arg3 harg3 arg4 harg4 arg9 arg13 arg14 x0 x1 320 (by norm_num) _ a j) (fun r j hr => ?_) r j (by omega)
  refine canon_chunk (weight x0 x1 2 (max2 x0 x1)) 304 (by norm_num) _ _ _ (fun a j => chunk2 c arg3 harg3 arg4 harg4 arg9 arg13 arg14 x0 x1 304 (by norm_num) _ a j) (fun r j hr => ?_) r j (by omega)
  refine canon_chunk (weight x0 x1 2 (max2 x0 x1)) 288 (by norm_num) _ _ _ (fun a j => chunk2 c arg3 harg3 arg4 harg4 arg9 arg13 arg14 x0 x1 288 (by norm_num) _ a j) (fun r j hr => ?_) r j (by omega)
  refine canon_chunk (weight x0 x1 2 (max2 x0 x1)) 272 (by norm_num) _ _ _ (fun a j => chunk2 c arg3 harg3 arg4 harg4 arg9 arg13 arg14 x0 x1 272 (by norm_num) _ a j) (fun r j hr => ?_) r j (by omega)
  refine canon_chunk (weight x0 x1 2 (max2 x0 x1)) 256 (by norm_num) _ _ _ (fun a j => chunk2 c arg3 harg3 arg4 harg4 arg9 arg13 arg14 x0 x1 256 (by norm_num) _ a j) (fun r j hr => ?_) r j (by omega)
  refine canon_chunk (weight x0 x1 2 (max2 x0 x1)) 240 (by norm_num) _ _ _ (fun a j => chunk2 c arg3 harg3 arg4 harg4 arg9 arg13 arg14 x0 x1 240 (by norm_num) _ a j) (fun r j hr => ?_) r j (by omega)
  refine canon_chunk (weight x0 x1 2 (max2 x0 x1)) 224 (by norm_num) _ _ _ (fun a j => chunk2 c arg3 harg3 arg4 harg4 arg9 arg13 arg14 x0 x1 224 (by norm_num) _ a j) (fun r j hr => ?_) r j (by omega)
  refine canon_chunk (weight x0 x1 2 (max2 x0 x1)) 208 (by norm_num) _ _ _ (fun a j => chunk2 c arg3 harg3 arg4 harg4 arg9 arg13 arg14 x0 x1 208 (by norm_num) _ a j) (fun r j hr => ?_) r j (by omega)
  refine canon_chunk (weight x0 x1 2 (max2 x0 x1)) 192 (by norm_num) _ _ _ (fun a j => chunk2 c arg3 harg3 arg4 harg4 arg9 arg13 arg14 x0 x1 192 (by norm_num) _ a j) (fun r j hr => ?_) r j (by omega)
  refine canon_chunk (weight x0 x1 2 (max2 x0 x1)) 176 (by norm_num) _ _ _ (fun a j => chunk2 c arg3 harg3 arg4 harg4 arg9 arg13 arg14 x0 x1 176 (by norm_num) _ a j) (fun r j hr => ?_) r j (by omega)
  refine canon_chunk (weight x0 x1 2 (max2 x0 x1)) 160 (by norm_num) _ _ _ (fun a j => chunk2 c arg3 harg3 arg4 harg4 arg9 arg13 arg14 x0 x1 160 (by norm_num) _ a j) (fun r j hr => ?_) r j (by omega)
  refine canon_chunk (weight x0 x1 2 (max2 x0 x1)) 144 (by norm_num) _ _ _ (fun a j => chunk2 c arg3 harg3 arg4 harg4 arg9 arg13 arg14 x0 x1 144 (by norm_num) _ a j) (fun r j hr => ?_) r j (by omega)
  refine canon_chunk (weight x0 x1 2 (max2 x0 x1)) 128 (by norm_num) _ _ _ (fun a j => chunk2 c arg3 harg3 arg4 harg4 arg9 arg13 arg14 x0 x1 128 (by norm_num) _ a j) (fun r j hr => ?_) r j (by omega)
  refine canon_chunk (weight x0 x1 2 (max2 x0 x1)) 112 (by norm_num) _ _ _ (fun a j => chunk2 c arg3 harg3 arg4 harg4 arg9 arg13 arg14 x0 x1 112 (by norm_num) _ a j) (fun r j hr => ?_) r j (by omega)
  refine canon_chunk (weight x0 x1 2 (max2 x0 x1)) 96 (by norm_num) _ _ _ (fun a j => chunk2 c arg3 harg3 arg4 harg4 arg9 arg13 arg14 x0 x1 96 (by norm_num) _ a j) (fun r j hr => ?_) r j (by omega)
  refine canon_chunk (weight x0 x1 2 (max2 x0 x1)) 80 (by norm_num) _ _ _ (fun a j => chunk2 c arg3 harg3 arg4 harg4 arg9 arg13 arg14 x0 x1 80 (by norm_num) _ a j) (fun r j hr => ?_) r j (by omega)
  refine canon_chunk (weight x0 x1 2 (max2 x0 x1)) 64 (by norm_num) _ _ _ (fun a j => chunk2 c arg3 harg3 arg4 harg4 arg9 arg13 arg14 x0 x1 64 (by norm_num) _ a j) (fun r j hr => ?_) r j (by omega)
  refine canon_chunk (weight x0 x1 2 (max2 x0 x1)) 48 (by norm_num) _ _ _ (fun a j => chunk2 c arg3 harg3 arg4 harg4 arg9 arg13 arg14 x0 x1 48 (by norm_num) _ a j) (fun r j hr => ?_) r j (by omega)
  refine canon_chunk (weight x0 x1 2 (max2 x0 x1)) 32 (by norm_num) _ _ _ (fun a j => chunk2 c arg3 harg3 arg4 harg4 arg9 arg13 arg14 x0 x1 32 (by norm_num) _ a j) (fun r j hr => ?_) r j (by omega)
  refine canon_chunk (weight x0 x1 2 (max2 x0 x1)) 16 (by norm_num) _ _ _ (fun a j => chunk2 c arg3 harg3 arg4 harg4 arg9 arg13 arg14 x0 x1 16 (by norm_num) _ a j) (fun r j hr => ?_) r j (by omega)
  refine canon_chunk (weight x0 x1 2 (max2 x0 x1)) 0 (by norm_num) _ _ _ (fun a j => chunk2 c arg3 harg3 arg4 harg4 arg9 arg13 arg14 x0 x1 0 (by norm_num) _ a j) (fun r j hr => ?_) r j (by omega)
  omega

/-- The running maximum as step 3 finds it. -/
theorem oldmax3 (j : Fin 1024) : (kernelRun0_A.sl.v795 (F := Ideal) c arg3 harg3 arg4 harg4 arg13 arg14 x0 x1) (ix2 0 j) = max2 x0 x1 j := by
  unfold kernelRun0_A.sl.v795 kernelRun0_A.sl.HS7_4
  rw [View.readCov_cons_toLoadRect]
  exact (by pointwise [k0_pay126] : _ = (kernelRun0_A.sl.r_9 (F := Ideal) c arg3 harg3 arg4 harg4 arg13 arg14 x0 x1) (ix2 0 j)).trans (newmax2 c arg3 harg3 arg4 harg4 arg13 arg14 x0 x1 j)

/-- The group maxima of key block 3 as step 3 loads them. -/
theorem slot3 (a : Fin 8) (j : Fin 1024) : (kernelRun0_A.sl.v796 (F := Ideal) c arg3 harg3 arg4 harg4 arg13 x0 x1) (ix3 0 a j) = groupMax x0 x1 3 a j := by
  unfold kernelRun0_A.sl.v796
  rw [View.readCov_eq_canon']
  refine (congrArg (View.canon (kernelRun0_A.sl.HS6_4 (F := Ideal) c arg3 harg3 arg4 harg4 x0 x1)) (slot_idx 3 3 rfl _ a j)).trans ?_
  exact groups3 c arg3 harg3 arg4 harg4 x0 x1 a j

/-- The running maximum of step 3. -/
theorem newmax3 (j : Fin 1024) : (kernelRun0_A.sl.r_13 (F := Ideal) c arg3 harg3 arg4 harg4 arg13 arg14 x0 x1) (ix2 0 j) = max3 x0 x1 j := by
  unfold kernelRun0_A.sl.r_13
  pointwise [k0_pay129]
  simp only [oldmax3 c arg3 harg3 arg4 harg4 arg13 arg14 x0 x1, slot3 c arg3 harg3 arg4 harg4 arg13 x0 x1]
  rfl

/-- The same spread over sixteen rows. -/
theorem rows3 (a : Fin 16) (j : Fin 1024) : (kernelRun0_A.sl.r_15 (F := Ideal) c arg3 harg3 arg4 harg4 arg13 arg14 x0 x1) (ix2 a j) = max3 x0 x1 j := by
  refine Eq.trans ?_ (newmax3 c arg3 harg3 arg4 harg4 arg13 arg14 x0 x1 j)
  unfold kernelRun0_A.sl.r_15 kernelRun0_A.sl.r_13
  pointwise [k0_pay131]

/-- The factor by which step 3 rescales what was summed before it. -/
theorem alpha3 (j : Fin 1024) : (kernelRun0_A.sl.r_14 (F := Ideal) c arg3 harg3 arg4 harg4 arg13 arg14 x0 x1) (ix2 0 j) = Ideal.exp2 (max2 x0 x1 j - max3 x0 x1 j) := by
  have h1 := oldmax3 c arg3 harg3 arg4 harg4 arg13 arg14 x0 x1 j
  have h2 := newmax3 c arg3 harg3 arg4 harg4 arg13 arg14 x0 x1 j
  unfold kernelRun0_A.sl.r_13 at h2
  unfold kernelRun0_A.sl.r_14
  rw [← h1, ← h2]
  pointwise [k0_pay130]
  rfl

/-- Sixteen rows of the weights of key block 3. -/
theorem chunk3 (n : ℕ) (hn : n + 16 ≤ 512) (inb : ∀ a, (![n, 0] : Fin 2 → ℕ) a + S16x1024.size a ≤ S512x1024.size a)
    (a : Fin 16) (j : Fin 1024) :
    k0_pay15 (kernelRun0_A.sl.r_15 (F := Ideal) c arg3 harg3 arg4 harg4 arg13 arg14 x0 x1) (arg10.view.readCov (kernelRun0_A.sl.HS3_1 (F := Ideal) c arg3 harg3 arg4 harg4 x0 x1) (Rect.unit (s := S512x1024) ![n, 0] S16x1024.size inb).toLoadRect) (ix2 a j)
      = weight x0 x1 3 (max3 x0 x1) ⟨n + a.val, by omega⟩ j := by
  refine (weights_pay _ _ a j).trans ?_
  rw [load_scores3 c arg3 harg3 arg4 harg4 arg10 x0 x1 n hn inb a j, rows3 c arg3 harg3 arg4 harg4 arg13 arg14 x0 x1 a j]
  rfl

/-- The weights of key block 3. -/
theorem weights3 (r : Fin 512) (j : Fin 1024) : View.canon (kernelRun0_A.sl.HS5_64 (F := Ideal) c arg3 harg3 arg4 harg4 arg8 arg10 arg13 arg14 x0 x1) (ix2 r j) = weight x0 x1 3 (max3 x0 x1) r j := by
  unfold kernelRun0_A.sl.HS5_64
  refine canon_chunk (weight x0 x1 3 (max3 x0 x1)) 496 (by norm_num) _ _ _ (fun a j => chunk3 c arg3 harg3 arg4 harg4 arg10 arg13 arg14 x0 x1 496 (by norm_num) _ a j) (fun r j hr => ?_) r j (by omega)
  refine canon_chunk (weight x0 x1 3 (max3 x0 x1)) 480 (by norm_num) _ _ _ (fun a j => chunk3 c arg3 harg3 arg4 harg4 arg10 arg13 arg14 x0 x1 480 (by norm_num) _ a j) (fun r j hr => ?_) r j (by omega)
  refine canon_chunk (weight x0 x1 3 (max3 x0 x1)) 464 (by norm_num) _ _ _ (fun a j => chunk3 c arg3 harg3 arg4 harg4 arg10 arg13 arg14 x0 x1 464 (by norm_num) _ a j) (fun r j hr => ?_) r j (by omega)
  refine canon_chunk (weight x0 x1 3 (max3 x0 x1)) 448 (by norm_num) _ _ _ (fun a j => chunk3 c arg3 harg3 arg4 harg4 arg10 arg13 arg14 x0 x1 448 (by norm_num) _ a j) (fun r j hr => ?_) r j (by omega)
  refine canon_chunk (weight x0 x1 3 (max3 x0 x1)) 432 (by norm_num) _ _ _ (fun a j => chunk3 c arg3 harg3 arg4 harg4 arg10 arg13 arg14 x0 x1 432 (by norm_num) _ a j) (fun r j hr => ?_) r j (by omega)
  refine canon_chunk (weight x0 x1 3 (max3 x0 x1)) 416 (by norm_num) _ _ _ (fun a j => chunk3 c arg3 harg3 arg4 harg4 arg10 arg13 arg14 x0 x1 416 (by norm_num) _ a j) (fun r j hr => ?_) r j (by omega)
  refine canon_chunk (weight x0 x1 3 (max3 x0 x1)) 400 (by norm_num) _ _ _ (fun a j => chunk3 c arg3 harg3 arg4 harg4 arg10 arg13 arg14 x0 x1 400 (by norm_num) _ a j) (fun r j hr => ?_) r j (by omega)
  refine canon_chunk (weight x0 x1 3 (max3 x0 x1)) 384 (by norm_num) _ _ _ (fun a j => chunk3 c arg3 harg3 arg4 harg4 arg10 arg13 arg14 x0 x1 384 (by norm_num) _ a j) (fun r j hr => ?_) r j (by omega)
  refine canon_chunk (weight x0 x1 3 (max3 x0 x1)) 368 (by norm_num) _ _ _ (fun a j => chunk3 c arg3 harg3 arg4 harg4 arg10 arg13 arg14 x0 x1 368 (by norm_num) _ a j) (fun r j hr => ?_) r j (by omega)
  refine canon_chunk (weight x0 x1 3 (max3 x0 x1)) 352 (by norm_num) _ _ _ (fun a j => chunk3 c arg3 harg3 arg4 harg4 arg10 arg13 arg14 x0 x1 352 (by norm_num) _ a j) (fun r j hr => ?_) r j (by omega)
  refine canon_chunk (weight x0 x1 3 (max3 x0 x1)) 336 (by norm_num) _ _ _ (fun a j => chunk3 c arg3 harg3 arg4 harg4 arg10 arg13 arg14 x0 x1 336 (by norm_num) _ a j) (fun r j hr => ?_) r j (by omega)
  refine canon_chunk (weight x0 x1 3 (max3 x0 x1)) 320 (by norm_num) _ _ _ (fun a j => chunk3 c arg3 harg3 arg4 harg4 arg10 arg13 arg14 x0 x1 320 (by norm_num) _ a j) (fun r j hr => ?_) r j (by omega)
  refine canon_chunk (weight x0 x1 3 (max3 x0 x1)) 304 (by norm_num) _ _ _ (fun a j => chunk3 c arg3 harg3 arg4 harg4 arg10 arg13 arg14 x0 x1 304 (by norm_num) _ a j) (fun r j hr => ?_) r j (by omega)
  refine canon_chunk (weight x0 x1 3 (max3 x0 x1)) 288 (by norm_num) _ _ _ (fun a j => chunk3 c arg3 harg3 arg4 harg4 arg10 arg13 arg14 x0 x1 288 (by norm_num) _ a j) (fun r j hr => ?_) r j (by omega)
  refine canon_chunk (weight x0 x1 3 (max3 x0 x1)) 272 (by norm_num) _ _ _ (fun a j => chunk3 c arg3 harg3 arg4 harg4 arg10 arg13 arg14 x0 x1 272 (by norm_num) _ a j) (fun r j hr => ?_) r j (by omega)
  refine canon_chunk (weight x0 x1 3 (max3 x0 x1)) 256 (by norm_num) _ _ _ (fun a j => chunk3 c arg3 harg3 arg4 harg4 arg10 arg13 arg14 x0 x1 256 (by norm_num) _ a j) (fun r j hr => ?_) r j (by omega)
  refine canon_chunk (weight x0 x1 3 (max3 x0 x1)) 240 (by norm_num) _ _ _ (fun a j => chunk3 c arg3 harg3 arg4 harg4 arg10 arg13 arg14 x0 x1 240 (by norm_num) _ a j) (fun r j hr => ?_) r j (by omega)
  refine canon_chunk (weight x0 x1 3 (max3 x0 x1)) 224 (by norm_num) _ _ _ (fun a j => chunk3 c arg3 harg3 arg4 harg4 arg10 arg13 arg14 x0 x1 224 (by norm_num) _ a j) (fun r j hr => ?_) r j (by omega)
  refine canon_chunk (weight x0 x1 3 (max3 x0 x1)) 208 (by norm_num) _ _ _ (fun a j => chunk3 c arg3 harg3 arg4 harg4 arg10 arg13 arg14 x0 x1 208 (by norm_num) _ a j) (fun r j hr => ?_) r j (by omega)
  refine canon_chunk (weight x0 x1 3 (max3 x0 x1)) 192 (by norm_num) _ _ _ (fun a j => chunk3 c arg3 harg3 arg4 harg4 arg10 arg13 arg14 x0 x1 192 (by norm_num) _ a j) (fun r j hr => ?_) r j (by omega)
  refine canon_chunk (weight x0 x1 3 (max3 x0 x1)) 176 (by norm_num) _ _ _ (fun a j => chunk3 c arg3 harg3 arg4 harg4 arg10 arg13 arg14 x0 x1 176 (by norm_num) _ a j) (fun r j hr => ?_) r j (by omega)
  refine canon_chunk (weight x0 x1 3 (max3 x0 x1)) 160 (by norm_num) _ _ _ (fun a j => chunk3 c arg3 harg3 arg4 harg4 arg10 arg13 arg14 x0 x1 160 (by norm_num) _ a j) (fun r j hr => ?_) r j (by omega)
  refine canon_chunk (weight x0 x1 3 (max3 x0 x1)) 144 (by norm_num) _ _ _ (fun a j => chunk3 c arg3 harg3 arg4 harg4 arg10 arg13 arg14 x0 x1 144 (by norm_num) _ a j) (fun r j hr => ?_) r j (by omega)
  refine canon_chunk (weight x0 x1 3 (max3 x0 x1)) 128 (by norm_num) _ _ _ (fun a j => chunk3 c arg3 harg3 arg4 harg4 arg10 arg13 arg14 x0 x1 128 (by norm_num) _ a j) (fun r j hr => ?_) r j (by omega)
  refine canon_chunk (weight x0 x1 3 (max3 x0 x1)) 112 (by norm_num) _ _ _ (fun a j => chunk3 c arg3 harg3 arg4 harg4 arg10 arg13 arg14 x0 x1 112 (by norm_num) _ a j) (fun r j hr => ?_) r j (by omega)
  refine canon_chunk (weight x0 x1 3 (max3 x0 x1)) 96 (by norm_num) _ _ _ (fun a j => chunk3 c arg3 harg3 arg4 harg4 arg10 arg13 arg14 x0 x1 96 (by norm_num) _ a j) (fun r j hr => ?_) r j (by omega)
  refine canon_chunk (weight x0 x1 3 (max3 x0 x1)) 80 (by norm_num) _ _ _ (fun a j => chunk3 c arg3 harg3 arg4 harg4 arg10 arg13 arg14 x0 x1 80 (by norm_num) _ a j) (fun r j hr => ?_) r j (by omega)
  refine canon_chunk (weight x0 x1 3 (max3 x0 x1)) 64 (by norm_num) _ _ _ (fun a j => chunk3 c arg3 harg3 arg4 harg4 arg10 arg13 arg14 x0 x1 64 (by norm_num) _ a j) (fun r j hr => ?_) r j (by omega)
  refine canon_chunk (weight x0 x1 3 (max3 x0 x1)) 48 (by norm_num) _ _ _ (fun a j => chunk3 c arg3 harg3 arg4 harg4 arg10 arg13 arg14 x0 x1 48 (by norm_num) _ a j) (fun r j hr => ?_) r j (by omega)
  refine canon_chunk (weight x0 x1 3 (max3 x0 x1)) 32 (by norm_num) _ _ _ (fun a j => chunk3 c arg3 harg3 arg4 harg4 arg10 arg13 arg14 x0 x1 32 (by norm_num) _ a j) (fun r j hr => ?_) r j (by omega)
  refine canon_chunk (weight x0 x1 3 (max3 x0 x1)) 16 (by norm_num) _ _ _ (fun a j => chunk3 c arg3 harg3 arg4 harg4 arg10 arg13 arg14 x0 x1 16 (by norm_num) _ a j) (fun r j hr => ?_) r j (by omega)
  refine canon_chunk (weight x0 x1 3 (max3 x0 x1)) 0 (by norm_num) _ _ _ (fun a j => chunk3 c arg3 harg3 arg4 harg4 arg10 arg13 arg14 x0 x1 0 (by norm_num) _ a j) (fun r j hr => ?_) r j (by omega)
  omega

/-- The weights of key block 0 as the product reads them. -/
theorem load_weights0 (r : Fin 512) (j : Fin 1024) : (kernelRun0_A.sl.v297 (F := Ideal) c arg3 harg3 arg4 harg4 arg7 arg11 arg13 arg14 x0 x1) (ix2 r j) = weight x0 x1 0 (max0 x0 x1) r j := by
  unfold kernelRun0_A.sl.v297
  rw [View.readCov_eq_canon']
  refine (congrArg (View.canon (kernelRun0_A.sl.HS4_32 (F := Ideal) c arg3 harg3 arg4 harg4 arg7 arg13 arg14 x0 x1)) (whole_idx _ r j)).trans ?_
  exact weights0 c arg3 harg3 arg4 harg4 arg7 arg13 arg14 x0 x1 r j

/-- The weighted values of key block 0. -/
theorem part0 (i : Fin 144) (j : Fin 1024) : (kernelRun0_A.sl.r_3 (F := Ideal) c arg3 harg3 arg4 harg4 arg5 harg5 arg7 arg11 arg13 arg14 x0 x1 x2) (ix2 i j) = part x0 x1 x2 0 (max0 x0 x1) i j := by
  unfold kernelRun0_A.sl.r_3
  simp only [View.readAt_eq_ld, harg5.read_unread]
  pointwise [k0_pay51]
  simp only [load_weights0 c arg3 harg3 arg4 harg4 arg7 arg11 arg13 arg14 x0 x1]
  rfl

/-- The weights of key block 1 as the product reads them. -/
theorem load_weights1 (r : Fin 512) (j : Fin 1024) : (kernelRun0_A.sl.v545 (F := Ideal) c arg3 harg3 arg4 harg4 arg8 arg12 arg13 arg14 x0 x1) (ix2 r j) = weight x0 x1 1 (max1 x0 x1) r j := by
  unfold kernelRun0_A.sl.v545
  rw [View.readCov_eq_canon']
  refine (congrArg (View.canon (kernelRun0_A.sl.HS5_32 (F := Ideal) c arg3 harg3 arg4 harg4 arg8 arg13 arg14 x0 x1)) (whole_idx _ r j)).trans ?_
  exact weights1 c arg3 harg3 arg4 harg4 arg8 arg13 arg14 x0 x1 r j

/-- The weighted values of key block 1. -/
theorem part1 (i : Fin 144) (j : Fin 1024) : (kernelRun0_A.sl.r_8 (F := Ideal) c arg3 harg3 arg4 harg4 arg5 harg5 arg8 arg12 arg13 arg14 x0 x1 x2) (ix2 i j) = part x0 x1 x2 1 (max1 x0 x1) i j := by
  unfold kernelRun0_A.sl.r_8
  simp only [View.readAt_eq_ld, harg5.read_unread]
  pointwise [k0_pay90]
  simp only [load_weights1 c arg3 harg3 arg4 harg4 arg8 arg12 arg13 arg14 x0 x1]
  rfl

/-- The weights of key block 2 as the product reads them. -/
theorem load_weights2 (r : Fin 512) (j : Fin 1024) : (kernelRun0_A.sl.v793 (F := Ideal) c arg3 harg3 arg4 harg4 arg7 arg9 arg11 arg13 arg14 x0 x1) (ix2 r j) = weight x0 x1 2 (max2 x0 x1) r j := by
  unfold kernelRun0_A.sl.v793
  rw [View.readCov_eq_canon']
  refine (congrArg (View.canon (kernelRun0_A.sl.HS4_64 (F := Ideal) c arg3 harg3 arg4 harg4 arg7 arg9 arg13 arg14 x0 x1)) (whole_idx _ r j)).trans ?_
  exact weights2 c arg3 harg3 arg4 harg4 arg7 arg9 arg13 arg14 x0 x1 r j

/-- The weighted values of key block 2. -/
theorem part2 (i : Fin 144) (j : Fin 1024) : (kernelRun0_A.sl.r_12 (F := Ideal) c arg3 harg3 arg4 harg4 arg5 harg5 arg7 arg9 arg11 arg13 arg14 x0 x1 x2) (ix2 i j) = part x0 x1 x2 2 (max2 x0 x1) i j := by
  unfold kernelRun0_A.sl.r_12
  simp only [View.readAt_eq_ld, harg5.read_unread]
  pointwise [k0_pay128]
  simp only [load_weights2 c arg3 harg3 arg4 harg4 arg7 arg9 arg11 arg13 arg14 x0 x1]
  rfl

/-- The weights of key block 3 as the product reads them. -/
theorem load_weights3 (r : Fin 512) (j : Fin 1024) : (kernelRun0_A.sl.v1042 (F := Ideal) c arg3 harg3 arg4 harg4 arg8 arg10 arg12 arg13 arg14 x0 x1) (ix2 r j) = weight x0 x1 3 (max3 x0 x1) r j := by
  unfold kernelRun0_A.sl.v1042
  rw [View.readCov_eq_canon']
  refine (congrArg (View.canon (kernelRun0_A.sl.HS5_64 (F := Ideal) c arg3 harg3 arg4 harg4 arg8 arg10 arg13 arg14 x0 x1)) (whole_idx _ r j)).trans ?_
  exact weights3 c arg3 harg3 arg4 harg4 arg8 arg10 arg13 arg14 x0 x1 r j

/-- The accumulator after key block 0, rescaled. -/
theorem acc1 (i : Fin 144) (j : Fin 1024) : (kernelRun0_A.sl.v784 (F := Ideal) c arg3 harg3 arg4 harg4 arg5 harg5 arg7 arg11 arg13 arg14 arg15 x0 x1 x2) (ix2 i j)
    = (0 + part x0 x1 x2 0 (max0 x0 x1) i j) * Ideal.exp2 (max0 x0 x1 j - max1 x0 x1 j) := by
  unfold kernelRun0_A.sl.v784 kernelRun0_A.sl.HS8_2
  rw [View.readCov_cons_toLoadRect, ← part0 c arg3 harg3 arg4 harg4 arg5 harg5 arg7 arg11 arg13 arg14 x0 x1 x2 i j, ← alpha1 c arg3 harg3 arg4 harg4 arg13 arg14 x0 x1 j]
  unfold kernelRun0_A.sl.r_7 kernelRun0_A.sl.v536 kernelRun0_A.sl.HS8_1
  rw [View.readCov_cons_toLoadRect]
  pointwise [k0_pay89, k0_pay88, k0_pay3]

/-- The accumulator after key block 1, rescaled. -/
theorem acc2 (i : Fin 144) (j : Fin 1024) : (kernelRun0_A.sl.v1032 (F := Ideal) c arg3 harg3 arg4 harg4 arg5 harg5 arg7 arg8 arg11 arg12 arg13 arg14 arg15 x0 x1 x2) (ix2 i j)
    = ((0 + part x0 x1 x2 0 (max0 x0 x1) i j) * Ideal.exp2 (max0 x0 x1 j - max1 x0 x1 j)
      + part x0 x1 x2 1 (max1 x0 x1) i j) * Ideal.exp2 (max1 x0 x1 j - max2 x0 x1 j) := by
  unfold kernelRun0_A.sl.v1032 kernelRun0_A.sl.HS8_3
  rw [View.readCov_cons_toLoadRect, ← part1 c arg3 harg3 arg4 harg4 arg5 harg5 arg8 arg12 arg13 arg14 x0 x1 x2 i j, ← alpha2 c arg3 harg3 arg4 harg4 arg13 arg14 x0 x1 j,
    ← acc1 c arg3 harg3 arg4 harg4 arg5 harg5 arg7 arg11 arg13 arg14 arg15 x0 x1 x2 i j]
  pointwise [k0_pay127]

/-- The accumulator after key block 2, rescaled. -/
theorem acc3 (i : Fin 144) (j : Fin 1024) : (kernelRun0_A.sl.v1039 (F := Ideal) c arg3 harg3 arg4 harg4 arg5 harg5 arg7 arg8 arg9 arg11 arg12 arg13 arg14 arg15 x0 x1 x2) (ix2 i j)
    = (((0 + part x0 x1 x2 0 (max0 x0 x1) i j) * Ideal.exp2 (max0 x0 x1 j - max1 x0 x1 j)
      + part x0 x1 x2 1 (max1 x0 x1) i j) * Ideal.exp2 (max1 x0 x1 j - max2 x0 x1 j)
      + part x0 x1 x2 2 (max2 x0 x1) i j) * Ideal.exp2 (max2 x0 x1 j - max3 x0 x1 j) := by
  unfold kernelRun0_A.sl.v1039 kernelRun0_A.sl.HS8_4
  rw [View.readCov_cons_toLoadRect, ← part2 c arg3 harg3 arg4 harg4 arg5 harg5 arg7 arg9 arg11 arg13 arg14 x0 x1 x2 i j, ← alpha3 c arg3 harg3 arg4 harg4 arg13 arg14 x0 x1 j,
    ← acc2 c arg3 harg3 arg4 harg4 arg5 harg5 arg7 arg8 arg11 arg12 arg13 arg14 arg15 x0 x1 x2 i j]
  pointwise [k0_pay172]

/-- What the point stores: row `e` of the accumulator over the row of ones. -/
theorem stored (j : Fin 1024) (e : Fin 128) :
    k0_pay1 (kernelRun0_A.sl.v1039 (F := Ideal) c arg3 harg3 arg4 harg4 arg5 harg5 arg7 arg8 arg9 arg11 arg12 arg13 arg14 arg15 x0 x1 x2) (kernelRun0_A.sl.v1040 (F := Ideal) c arg5 harg5 x2) (kernelRun0_A.sl.v1042 (F := Ideal) c arg3 harg3 arg4 harg4 arg8 arg10 arg12 arg13 arg14 x0 x1) (ix3 0 j e)
      = Ideal.div (acc x0 x1 x2 ⟨e.val, by omega⟩ j) (acc x0 x1 x2 128 j) := by
  unfold kernelRun0_A.sl.v1040
  simp only [View.readAt_eq_ld, harg5.read_unread]
  pointwise [k0_pay1]
  simp only [acc3 c arg3 harg3 arg4 harg4 arg5 harg5 arg7 arg8 arg9 arg11 arg12 arg13 arg14 arg15 x0 x1 x2, load_weights3 c arg3 harg3 arg4 harg4 arg8 arg10 arg12 arg13 arg14 x0 x1]
  rfl

end words
end Cert.KernelIdeal.Flash
end
-- ==== Proof.Flash.Reference.lean ====
module

public import proofs.«01_k».proof.Proof.Gen.ReferenceIdeal.Read
public import proofs.«01_k».proof.Proof.Flash.Softmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Attention

open Cert.ReferenceIdeal Cert.ReferenceIdeal.Gen Cert.ReferenceIdeal.Read

variable (Q : FVec Ideal S16x1536x2048 .bf16) (K : FVec Ideal S16x2048x1536 .bf16) (V : FVec Ideal S16x6x4x128x512 .bf16)

/-- The largest entry along the last of four axes. -/
theorem last_max (n0 n1 n2 n3 : ℕ) {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) x init h hu (ix3 a b c)
      = Finset.univ.fold max (init (Shape.Idx.first hu)) fun k : Fin n3 => x (ix4 a b c k) := by
  pointwise

/-- The largest scaled score of query `q`. -/
theorem largest (b : Fin 16) (h : Fin 6) (q : Fin 2048) : val_main_v11 (F := Ideal) Q K (ix3 b h q)
    = Finset.univ.fold max (val_main_cst_0 (F := Ideal) (Shape.Idx.first h_S_)) fun k : Fin 2048 => val_main_v10 (F := Ideal) Q K (ix4 b h q k) := by
  unfold val_main_v11
  generalize val_main_v10 (F := Ideal) Q K = x
  generalize val_main_cst_0 (F := Ideal) = y
  have := last_max 16 6 2048 2048 x y reducesTo_S16x6x2048x2048_S16x6x2048_d3 h_S_ b h q
  exact this

/-- The logarithm of two. -/
theorem log_two : Ideal.log (Ideal.ofBits .f32 0x40000000#32) = ((Real.log 2 : ℝ) : EReal) := by
  rw [Cert.Softmax.two]
  show (if (2 : ℝ) ≤ 0 then (⊥ : EReal) else ((Real.log 2 : ℝ) : EReal)) = _
  rw [if_neg (by norm_num)]

/-- The score of key `k` against query `q` in head `h` of batch entry `b`. -/
theorem scores (b : Fin 16) (h : Fin 6) (q k : Fin 2048) : val_main_v7 (F := Ideal) Q K (ix4 b h q k)
    = ∑ d : Fin 256, Q (ix3 b ⟨h.val * 256 + d.val, by omega⟩ q) * K (ix3 b k ⟨h.val * 256 + d.val, by omega⟩) := by
  pointwise [val_main_v7, val_main_v1, val_main_v0, val_main_v3, val_main_v2]

/-- The values, position by position. -/
theorem values (b : Fin 16) (h : Fin 6) (c : Fin 4) (r : Fin 512) (e : Fin 128) : val_main_v6 (F := Ideal) V (ix4 b ⟨512 * c.val + r.val, by omega⟩ h e)
    = V (ix5 b h c e r) := by
  pointwise [val_main_v6, val_main_v5, val_main_v4]

/-- The scaled score. -/
theorem scaled (b : Fin 16) (h : Fin 6) (q k : Fin 2048) : val_main_v10 (F := Ideal) Q K (ix4 b h q k)
    = val_main_v7 (F := Ideal) Q K (ix4 b h q k) * ((Real.log 2 : ℝ) : EReal) := by
  rw [← log_two]
  pointwise [val_main_v10, val_main_v9, val_main_v8, val_main_cst]

/-- The exponential of a scaled score less the largest. -/
theorem exponential (b : Fin 16) (h : Fin 6) (q k : Fin 2048) : val_main_v17 (F := Ideal) Q K (ix4 b h q k)
    = Ideal.exp (val_main_v7 (F := Ideal) Q K (ix4 b h q k) * ((Real.log 2 : ℝ) : EReal) - val_main_v13 (F := Ideal) Q K (ix3 b h q)) := by
  rw [← scaled]
  pointwise [val_main_v17, val_main_v16, val_main_v15, val_main_v14]

/-- The largest of a nonempty row of reals is a real. -/
theorem row_real (n : ℕ) (hn : 0 < n) (f : Fin n → EReal) (i : EReal) (hi : i = Ideal.ofBits .f32 0xFF800000#32)
    (hf : ∀ k, ∃ x : ℝ, f k = x) : ∃ M : ℝ, Finset.univ.fold max i f = M := by
  subst hi
  obtain ⟨k, rfl⟩ := Nat.exists_eq_succ_of_ne_zero hn.ne'
  exact Cert.Softmax.fold_max_real f hf

/-- What is subtracted is the largest score, or minus infinity if that is larger. -/
theorem subtracted (b : Fin 16) (h : Fin 6) (q : Fin 2048) :
    val_main_v13 (F := Ideal) Q K (ix3 b h q) = max (Ideal.ofBits .f32 0xFF800000#32) (val_main_v11 (F := Ideal) Q K (ix3 b h q)) := by
  rw [val_main_v13_apply, val_main_v12_apply, val_main_cst_1_apply]
  generalize val_main_v11 (F := Ideal) Q K (ix3 b h q) = x
  rfl

/-- The search for the largest score starts at minus infinity. -/
theorem start : val_main_cst_0 (F := Ideal) (Shape.Idx.first h_S_) = Ideal.ofBits .f32 0xFF800000#32 :=
  val_main_cst_0_apply _

/-- The largest scaled score, as it is subtracted, is a real where the scores are. -/
theorem largest_real (b : Fin 16) (h : Fin 6) (q : Fin 2048) (hs : ∀ k, ∃ x : ℝ, val_main_v7 (F := Ideal) Q K (ix4 b h q k) = (x : EReal)) :
    ∃ μ : ℝ, val_main_v13 (F := Ideal) Q K (ix3 b h q) = (μ : EReal) := by
  rw [subtracted, largest, Cert.Softmax.neg_inf, max_eq_right bot_le]
  refine row_real 2048 (by norm_num) _ _ start fun k => ?_
  obtain ⟨x, hx⟩ := hs k
  exact ⟨x * Real.log 2, by rw [scaled, hx, EReal.coe_mul]⟩

/-- The result at a head's entry: the values weighted by the softmax. -/
theorem result (b : Fin 16) (h : Fin 6) (q : Fin 2048) (e : Fin 128) : val_main_v25 (F := Ideal) Q K V (ix3 b q ⟨h.val * 128 + e.val, by omega⟩)
    = ∑ k, val_main_v6 (F := Ideal) V (ix4 b k h e) * Ideal.div (val_main_v17 (F := Ideal) Q K (ix4 b h q k)) (∑ k', val_main_v17 (F := Ideal) Q K (ix4 b h q k')) := by
  pointwise [val_main_v25, val_main_v24, val_main_v23, val_main_v22, val_main_v21, val_main_v20, val_main_v19, val_main_v18, val_main_cst_2]

/-- **The reference's result is the softmax-weighted sum of the values**, written by blocks of 512 keys, where the scores
    against the query are real. -/
theorem attention (b : Fin 16) (h : Fin 6) (q : Fin 2048) (e : Fin 128) (s : Fin 4 → Fin 512 → ℝ)
    (hs : ∀ c r, val_main_v7 (F := Ideal) Q K (ix4 b h q ⟨512 * c.val + r.val, by omega⟩) = (s c r : EReal)) :
    ∃ μ : ℝ, val_main_v25 (F := Ideal) Q K V (ix3 b q ⟨h.val * 128 + e.val, by omega⟩)
      = ∑ c, ∑ r, V (ix5 b h c e r) * Ideal.div (Ideal.exp ((s c r : EReal) * ((Real.log 2 : ℝ) : EReal) - (μ : EReal)))
          (∑ c, ∑ r, Ideal.exp ((s c r : EReal) * ((Real.log 2 : ℝ) : EReal) - (μ : EReal))) := by
  obtain ⟨μ, hμ⟩ := largest_real Q K b h q fun k => ⟨s ⟨k.val / 512, by omega⟩ ⟨k.val % 512, by omega⟩, by
    rw [← hs]; congr 2; apply Fin.ext; show k.val = 512 * (k.val / 512) + k.val % 512; omega⟩
  refine ⟨μ, ?_⟩
  rw [result]
  simp only [Cert.Softmax.sum_blocks, values, exponential, hs, hμ]

end Cert.ReferenceIdeal.Attention

end
-- ==== Proof.Flash.Core.lean ====
module

public import proofs.«01_k».proof.Proof.Flash.Words
public import proofs.«01_k».proof.Proof.Flash.Reference

@[expose] public section

set_option maxRecDepth 16384

noncomputable section

open Idealize.ShloMosaic Idealize.ShloMosaic.TcCoe Idealize.SL.Sem

namespace Cert.KernelIdeal.Flash

open Cert.KernelIdeal Cert.KernelIdeal.Gen

section core

variable (x0 : FVec Ideal S1x256x1024 .bf16) (x1 : FVec Ideal S1x2048x256 .bf16) (x2 : FVec Ideal S1x1x4x144x512 .bf16)

/-- The largest score of a key block is a real where the block's scores are. -/
theorem blockMax_real (c : Fin 4) (j : Fin 1024) (hs : ∀ r, ∃ s : ℝ, score x0 x1 c r j = (s : EReal)) : ∃ s : ℝ, blockMax x0 x1 c j = (s : EReal) :=
  Cert.Softmax.fold_max_real (n := 7) _ fun a => Cert.Softmax.fold_max_real (n := 63) _ fun g => hs _

/-- A weighted block of values, the scores and the row's maximum real. -/
theorem part_real (c : Fin 4) (j : Fin 1024) (s : Fin 512 → ℝ) (hs : ∀ r, score x0 x1 c r j = (s r : EReal))
    (M : Fin 1024 → EReal) (m : ℝ) (hm : M j = (m : EReal)) (i : Fin 144) :
    part x0 x1 x2 c M i j = Cert.Softmax.blockSum s (fun r => x2 (ix5 0 0 c i r)) m := by
  unfold part weight Cert.Softmax.blockSum
  simp only [hs, hm]

/-- The accumulator's row is the row's values weighted over all keys, every weight taken against one and the same real. -/
theorem acc_real (j : Fin 1024) (s : Fin 4 → Fin 512 → ℝ) (hs : ∀ c r, score x0 x1 c r j = (s c r : EReal)) :
    ∃ m : ℝ, ∀ i, acc x0 x1 x2 i j = ∑ c, Cert.Softmax.blockSum (s c) (fun r => x2 (ix5 0 0 c i r)) m := by
  have hb : ∀ c, ∃ x : ℝ, blockMax x0 x1 c j = (x : EReal) := fun c => blockMax_real x0 x1 c j fun r => ⟨_, hs c r⟩
  have h0 : ∃ x : ℝ, max0 x0 x1 j = (x : EReal) := by
    unfold max0; rw [Cert.Softmax.neg_inf, max_eq_right bot_le]; exact hb 0
  have h1 : ∃ x : ℝ, max1 x0 x1 j = (x : EReal) := Cert.Softmax.max_real h0 (hb 1)
  have h2 : ∃ x : ℝ, max2 x0 x1 j = (x : EReal) := Cert.Softmax.max_real h1 (hb 2)
  have h3 : ∃ x : ℝ, max3 x0 x1 j = (x : EReal) := Cert.Softmax.max_real h2 (hb 3)
  obtain ⟨m0, e0⟩ := h0
  obtain ⟨m1, e1⟩ := h1
  obtain ⟨m2, e2⟩ := h2
  obtain ⟨m3, e3⟩ := h3
  refine ⟨m3, fun i => ?_⟩
  unfold acc
  rw [part_real x0 x1 x2 0 j (s 0) (hs 0) _ m0 e0, part_real x0 x1 x2 1 j (s 1) (hs 1) _ m1 e1,
    part_real x0 x1 x2 2 j (s 2) (hs 2) _ m2 e2, part_real x0 x1 x2 3 j (s 3) (hs 3) _ m3 e3, e0, e1, e2, e3]
  exact Cert.Softmax.accumulate s (fun c r => x2 (ix5 0 0 c i r)) m0 m1 m2 m3

/-- **What a grid point stores is the reference's attention** at the point's place, where the point's blocks are cut
    from the queries, keys and values as the grid lays them out, the rows from 128 on are ones, and queries and keys
    are real. -/
theorem core (Q : FVec Ideal S16x1536x2048 .bf16) (K : FVec Ideal S16x2048x1536 .bf16) (V : FVec Ideal S16x6x4x128x512 .bf16)
    (hQ : ∀ i, ∃ x : ℝ, Q i = (x : EReal)) (hK : ∀ i, ∃ x : ℝ, K i = (x : EReal))
    (b : Fin 16) (h : Fin 6) (p : Fin 2) (j : Fin 1024) (e : Fin 128)
    (h0 : ∀ d : Fin 256, x0 (ix3 0 d j) = Q (ix3 b ⟨h.val * 256 + d.val, by omega⟩ ⟨p.val * 1024 + j.val, by omega⟩))
    (h1 : ∀ (k : Fin 2048) (d : Fin 256), x1 (ix3 0 k d) = K (ix3 b k ⟨h.val * 256 + d.val, by omega⟩))
    (h2 : ∀ (c : Fin 4) (r : Fin 512), x2 (ix5 0 0 c ⟨e.val, by omega⟩ r) = V (ix5 b h c e r))
    (h3 : ∀ (c : Fin 4) (r : Fin 512), x2 (ix5 0 0 c 128 r) = (1 : EReal)) :
    Ideal.div (acc x0 x1 x2 ⟨e.val, by omega⟩ j) (acc x0 x1 x2 128 j)
      = Cert.ReferenceIdeal.Read.val_main_v25 (F := Ideal) Q K V (ix3 b ⟨p.val * 1024 + j.val, by omega⟩ ⟨h.val * 128 + e.val, by omega⟩) := by
  have hs : ∀ (c : Fin 4) (r : Fin 512), ∃ s : ℝ, score x0 x1 c r j = (s : EReal) := fun c r => by
    unfold score
    refine Cert.Softmax.sum_mul_real _ _ (fun d => ?_) fun d => ?_
    · rw [h1]; exact hK _
    · rw [h0]; exact hQ _
  choose s hs using hs
  have hr : ∀ (c : Fin 4) (r : Fin 512), Cert.ReferenceIdeal.Read.val_main_v7 (F := Ideal) Q K (ix4 b h ⟨p.val * 1024 + j.val, by omega⟩ ⟨512 * c.val + r.val, by omega⟩)
      = (s c r : EReal) := fun c r => by
    rw [← hs, Cert.ReferenceIdeal.Attention.scores]
    unfold score
    refine Finset.sum_congr rfl fun d _ => ?_
    rw [h0, h1, mul_comm]
  obtain ⟨m, hm⟩ := acc_real x0 x1 x2 j s hs
  obtain ⟨μ, hμ⟩ := Cert.ReferenceIdeal.Attention.attention Q K V b h ⟨p.val * 1024 + j.val, by omega⟩ e s hr
  rw [hμ, hm, hm]
  simp only [h2, h3]
  exact Cert.Softmax.flash s (fun c r => V (ix5 b h c e r)) m μ

end core

end Cert.KernelIdeal.Flash

end
-- ==== Proof.Flash.Final.lean ====
module

public import proofs.«01_k».proof.Proof.Flash.Core
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen

variable (m : (ℓ : Loc nD τ sig) → Buf (Elt Ideal) ℓ)

/-- The block each window holds at a grid point. -/
theorem idx : ∀ t : Fin cfg0.N,
    win0_0.index t = ![(grid0.coords t 0).val, (grid0.coords t 1).val, (grid0.coords t 2).val]
    ∧ win0_1.index t = ![(grid0.coords t 0).val, 0, (grid0.coords t 1).val]
    ∧ win0_2.index t = ![(grid0.coords t 0).val, (grid0.coords t 1).val, 0, 0, 0]
    ∧ win0_3.index t = ![(grid0.coords t 0).val, (grid0.coords t 2).val, (grid0.coords t 1).val]
    ∧ (grid0.coords t 0).val < 16 ∧ (grid0.coords t 1).val < 6 ∧ (grid0.coords t 2).val < 2 :=
  (by decide +kernel : ∀ t : Fin grid0.N, _)

/-- The queries of a grid point. -/
theorem read_q (c : Dev nD) (t : Fin cfg0.N) (b : Fin 16) (h : Fin 6) (p : Fin 2)
    (hb : (grid0.coords t 0).val = b.val) (hh : (grid0.coords t 1).val = h.val) (hp : (grid0.coords t 2).val = p.val) (j : Fin 1024) (d : Fin 256) :
    (show FVec Ideal S1x256x1024 .bf16 from iblk m c 0 t) (ix3 0 d j)
      = (show FVec Ideal S16x1536x2048 .bf16 from m ((c : Thread nD τ).loc main_arg0)) (ix3 b ⟨h.val * 256 + d.val, by omega⟩ ⟨p.val * 1024 + j.val, by omega⟩) := by
  blk_ext [iblk, V, idx t, hb, hh, hp]

/-- The keys of a grid point. -/
theorem read_k (c : Dev nD) (t : Fin cfg0.N) (b : Fin 16) (h : Fin 6)
    (hb : (grid0.coords t 0).val = b.val) (hh : (grid0.coords t 1).val = h.val) (k : Fin 2048) (d : Fin 256) :
    (show FVec Ideal S1x2048x256 .bf16 from iblk m c 1 t) (ix3 0 k d)
      = (show FVec Ideal S16x2048x1536 .bf16 from m ((c : Thread nD τ).loc main_arg1)) (ix3 b k ⟨h.val * 256 + d.val, by omega⟩) := by
  blk_ext [iblk, V, idx t, hb, hh]

/-- The values of a grid point. -/
theorem read_v (c : Dev nD) (t : Fin cfg0.N) (b : Fin 16) (h : Fin 6)
    (hb : (grid0.coords t 0).val = b.val) (hh : (grid0.coords t 1).val = h.val) (k : Fin 4) (i : Fin 144) (r : Fin 512) :
    (show FVec Ideal S1x1x4x144x512 .bf16 from iblk m c 2 t) (ix5 0 0 k i r)
      = (show FVec Ideal S16x6x4x144x512 .bf16 from V m c main_v1) (ix5 b h k i r) := by
  blk_ext [iblk, idx t, hb, hh]

/-- The value rows of the values' array. -/
theorem rows_v (c : Dev nD) (b : Fin 16) (h : Fin 6) (k : Fin 4) (e : Fin 128) (r : Fin 512) :
    (show FVec Ideal S16x6x4x144x512 .bf16 from V m c main_v1) (ix5 b h k ⟨e.val, by omega⟩ r)
      = (show FVec Ideal S16x6x4x128x512 .bf16 from m ((c : Thread nD τ).loc main_arg2)) (ix5 b h k e r) := by
  entry_read
  pointwise

/-- The rows of ones of the values' array. -/
theorem rows_one (c : Dev nD) (b : Fin 16) (h : Fin 6) (k : Fin 4) (r : Fin 512) :
    (show FVec Ideal S16x6x4x144x512 .bf16 from V m c main_v1) (ix5 b h k 128 r) = (1 : EReal) := by
  entry_read
  pointwise

/-- The one store of the body covers its block of the result: what is left there is what it stores. -/
theorem left (c : Dev nD) (i : grid0.Coords) (arg3 : Memref sig .tc .vmem S1x256x1024 .bf16) (harg3 : arg3.IsWhole) (arg4 : Memref sig .tc .vmem S1x2048x256 .bf16) (harg4 : arg4.IsWhole) (arg5 : Memref sig .tc .vmem S1x1x4x144x512 .bf16) (harg5 : arg5.IsWhole) (arg6 : Memref sig .tc .vmem S1x1024x128 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S4x8x1024 .f32) (harg13 : arg13.IsWhole) (arg14 : Memref sig .tc .vmem S1x1024 .f32) (harg14 : arg14.IsWhole) (arg15 : Memref sig .tc .vmem S144x1024 .f32) (harg15 : arg15.IsWhole)
    (x0 : Vec Ideal S1x256x1024 .bf16) (x1 : Vec Ideal S1x2048x256 .bf16) (x2 : Vec Ideal S1x1x4x144x512 .bf16) :
    out0_A_3 (F := Ideal) c i arg3 harg3 arg4 harg4 arg5 harg5 arg6 harg6 arg7 harg7 arg8 harg8 arg9 harg9 arg10 harg10 arg11 harg11 arg12 harg12 arg13 harg13 arg14 harg14 arg15 harg15 x0 x1 x2 = k0_pay1 (kernelRun0_A.sl.v1039 (F := Ideal) c arg3 harg3 arg4 harg4 arg5 harg5 arg7 arg8 arg9 arg11 arg12 arg13 arg14 arg15 x0 x1 x2) (kernelRun0_A.sl.v1040 (F := Ideal) c arg5 harg5 x2) (kernelRun0_A.sl.v1042 (F := Ideal) c arg3 harg3 arg4 harg4 arg8 arg10 arg12 arg13 arg14 x0 x1) := by
  unfold out0_A_3
  rw [View.read_writes_junk_eq_canon]
  have e : (kernelRun0_A (F := Ideal) c i arg3 harg3 arg4 harg4 arg5 harg5 arg6 harg6 arg7 harg7 arg8 harg8 arg9 harg9 arg10 harg10 arg11 harg11 arg12 harg12 arg13 harg13 arg14 harg14 arg15 harg15 x0 x1 x2).1
      = [(⟨Rect.unit (s := S1x1024x128) ![0, 0, 0] S1x1024x128.size (by decide), (k0_pay1 (kernelRun0_A.sl.v1039 (F := Ideal) c arg3 harg3 arg4 harg4 arg5 harg5 arg7 arg8 arg9 arg11 arg12 arg13 arg14 arg15 x0 x1 x2) (kernelRun0_A.sl.v1040 (F := Ideal) c arg5 harg5 x2) (kernelRun0_A.sl.v1042 (F := Ideal) c arg3 harg3 arg4 harg4 arg8 arg10 arg12 arg13 arg14 x0 x1))⟩ : View.Piece (Elt Ideal) S1x1024x128 .bf16)] := by
    sl_kernel_rfl
  rw [e]
  exact View.canon_cons_unit_lit' _ _ _ (by decide)

/-- What a grid point leaves in its block of the result is the reference's attention there. -/
theorem point (c : Dev nD) (Q : FVec Ideal S16x1536x2048 .bf16) (K : FVec Ideal S16x2048x1536 .bf16) (V : FVec Ideal S16x6x4x128x512 .bf16)
    (eQ : m ((c : Thread nD τ).loc main_arg0) = Q) (eK : m ((c : Thread nD τ).loc main_arg1) = K) (eV : m ((c : Thread nD τ).loc main_arg2) = V)
    (hQ : ∀ i, ∃ x : ℝ, Q i = (x : EReal)) (hK : ∀ i, ∃ x : ℝ, K i = (x : EReal))
    (t : Fin cfg0.N) (b : Fin 16) (h : Fin 6) (p : Fin 2)
    (hb : (grid0.coords t 0).val = b.val) (hh : (grid0.coords t 1).val = h.val) (hp : (grid0.coords t 2).val = p.val) (j : Fin 1024) (e : Fin 128) :
    (show FVec Ideal S1x1024x128 .bf16 from outsAt0 m c t) (ix3 0 j e)
      = Cert.ReferenceIdeal.Read.val_main_v25 (F := Ideal) Q K V (ix3 b ⟨p.val * 1024 + j.val, by omega⟩ ⟨h.val * 128 + e.val, by omega⟩) := by
  show outsAt0 m c t (ix3 0 j e) = _
  unfold outsAt0
  rw [left]
  refine (stored _ _ _ _ _ _ _ _ _ _ _ _ _ _ _ _ _ _ _ j e).trans ?_
  refine core _ _ _ Q K V hQ hK b h p j e (fun d => ?_) (fun k d => ?_) (fun k r => ?_) (fun k r => ?_)
  · exact (read_q m c t b h p hb hh hp j d).trans (congrFun eQ _)
  · exact (read_k m c t b h hb hh k d).trans (congrFun eK _)
  · exact ((read_v m c t b h hb hh k _ r).trans (rows_v m c b h k e r)).trans (congrFun eV _)
  · exact (read_v m c t b h hb hh k _ r).trans (rows_one m c b h k r)

/-- **The kernel's result is the reference's**, where queries and keys are real. -/
theorem final (c : Dev nD) (Q : FVec Ideal S16x1536x2048 .bf16) (K : FVec Ideal S16x2048x1536 .bf16) (V : FVec Ideal S16x6x4x128x512 .bf16)
    (eQ : m ((c : Thread nD τ).loc main_arg0) = Q) (eK : m ((c : Thread nD τ).loc main_arg1) = K) (eV : m ((c : Thread nD τ).loc main_arg2) = V)
    (hQ : ∀ i, ∃ x : ℝ, Q i = (x : EReal)) (hK : ∀ i, ∃ x : ℝ, K i = (x : EReal)) :
    (dats m 0 c).arrAt 3 (cfgs 0).N = Cert.ReferenceIdeal.Read.val_main_v25 (F := Ideal) Q K V := by
  refine (dats m 0 c).arrAt_eq_of_covers 3 _ (by decide +kernel) fun t _ y => ?_
  blk_simp
  rw [after0_3]
  obtain ⟨_, _, _, i3, b0, b1, b2⟩ := idx t
  have hy : y = (ix3 0 (y 1) (y 2) : S1x1024x128.Idx) := by blk_ext
  rw [hy]
  refine (point m c Q K V eQ eK eV hQ hK t ⟨_, b0⟩ ⟨_, b1⟩ ⟨_, b2⟩ rfl rfl rfl (y 1) (y 2)).trans ?_
  refine congrArg _ ?_
  blk_ext [i3]

end Cert.KernelIdeal.Flash

end
-- ==== Proof.Ffn.Layer.lean ====
module

public import Idealize.ShloMosaic.Lib.Pipeline.ValueKit
public import Idealize.ShloMosaic.Lib.Pointwise
public import Idealize.ShloMosaic.PureOps.Ideal.Laws

@[expose] public section

noncomputable section

open Idealize.ShloMosaic

/-! One row of the feed-forward layer over the extended reals, and its hidden units summed by blocks. -/
namespace Cert.FeedForward

/-- The factor that brings a row to root mean square one. -/
def scale (x : Fin 2048 → EReal) : EReal :=
  Ideal.rsqrt (Ideal.div (∑ k, x k * x k) (Ideal.ofBits .f32 0x45000000#32) + Ideal.ofBits .f32 0x358637BD#32)

/-- The normalized row, weighted by the gain `g`. -/
def normed (x g : Fin 2048 → EReal) (k : Fin 2048) : EReal := x k * scale x * g k

/-- The positive part, squared. -/
def sqp (u : EReal) : EReal := max u 0 * max u 0

/-- The part of entry `e` that `n` hidden units contribute. -/
def units {n : ℕ} (h : Fin 2048 → EReal) (w1 : Fin 2048 → Fin n → EReal) (w2 : Fin n → EReal) : EReal :=
  ∑ f, sqp (∑ d, h d * w1 d f) * w2 f

/-- The layer's result at entry `e` of a row: the row plus the normalized output of all hidden units. -/
def out (x g : Fin 2048 → EReal) (w1 : Fin 2048 → Fin 8192 → EReal) (w2 : Fin 8192 → Fin 2048 → EReal) (pg : Fin 2048 → EReal) (e : Fin 2048) : EReal :=
  x e + normed (fun e => units (normed x g) w1 fun f => w2 f e) pg e

/-- Hidden units in two halves. -/
theorem units_halves (h : Fin 2048 → EReal) (w1 : Fin 2048 → Fin 2048 → EReal) (w2 : Fin 2048 → EReal) :
    units h w1 w2 = units h (fun d (f : Fin 1024) => w1 d ⟨f.val, by omega⟩) (fun f => w2 ⟨f.val, by omega⟩)
      + units h (fun d (f : Fin 1024) => w1 d ⟨1024 + f.val, by omega⟩) (fun f => w2 ⟨1024 + f.val, by omega⟩) := by
  unfold units
  exact Fin.sum_univ_add (a := 1024) (b := 1024) fun f : Fin 2048 => sqp (∑ d, h d * w1 d f) * w2 f

/-- A sum by four blocks of `n`, added one after the other. -/
theorem sum_four (n : ℕ) (F : Fin (n + n + n + n) → EReal) : ∑ f, F f
    = (∑ f : Fin n, F ⟨f.val, by omega⟩) + (∑ f : Fin n, F ⟨n + f.val, by omega⟩)
      + (∑ f : Fin n, F ⟨n + n + f.val, by omega⟩) + (∑ f : Fin n, F ⟨n + n + n + f.val, by omega⟩) := by
  rw [Fin.sum_univ_add, Fin.sum_univ_add, Fin.sum_univ_add]
  rfl

/-- A sum over 8192 by four blocks of 2048, added one after the other from zero. -/
theorem sum_quarters (F : Fin 8192 → EReal) : ∑ f, F f
    = 0 + (∑ f : Fin 2048, F ⟨f.val, by omega⟩) + (∑ f : Fin 2048, F ⟨2048 + f.val, by omega⟩)
      + (∑ f : Fin 2048, F ⟨4096 + f.val, by omega⟩) + (∑ f : Fin 2048, F ⟨6144 + f.val, by omega⟩) := by
  rw [zero_add]
  exact sum_four 2048 F

/-- All hidden units by four blocks, added one after the other from zero. -/
theorem units_quarters (h : Fin 2048 → EReal) (w1 : Fin 2048 → Fin 8192 → EReal) (w2 : Fin 8192 → EReal) :
    units h w1 w2 = 0 + units h (fun d (f : Fin 2048) => w1 d ⟨f.val, by omega⟩) (fun f => w2 ⟨f.val, by omega⟩)
      + units h (fun d (f : Fin 2048) => w1 d ⟨2048 + f.val, by omega⟩) (fun f => w2 ⟨2048 + f.val, by omega⟩)
      + units h (fun d (f : Fin 2048) => w1 d ⟨4096 + f.val, by omega⟩) (fun f => w2 ⟨4096 + f.val, by omega⟩)
      + units h (fun d (f : Fin 2048) => w1 d ⟨6144 + f.val, by omega⟩) (fun f => w2 ⟨6144 + f.val, by omega⟩) :=
  sum_quarters fun f => sqp (∑ d, h d * w1 d f) * w2 f

end Cert.FeedForward

end
-- ==== Proof.Ffn.Point.lean ====
module

public import proofs.«01_k».proof.Proof.Gen.Kernel2Ideal.Value
public import proofs.«01_k».proof.Proof.Ffn.Layer

@[expose] public section

set_option maxRecDepth 16384

noncomputable section

open Idealize.ShloMosaic Idealize.ShloMosaic.TcCoe Idealize.SL.Sem
open Cert.FeedForward

namespace Cert.Kernel2Ideal.Ffn

open Cert.Kernel2Ideal Cert.Kernel2Ideal.Gen

/-- The factor a row of a block is brought to root mean square one by: the normalized input that a run's first point keeps. -/
theorem first_norm (x : FVec Ideal S512x2048 .f32) (g : FVec Ideal S1x2048 .f32) (r : Fin 512) (k : Fin 2048) :
    k0_pay3 (F := Ideal) x g (ix2 r k) = normed (fun d => x (ix2 r d)) (fun d => g (ix2 0 d)) k := by
  pointwise [k0_pay3, normed, scale]

/-- What the last point of a run stores over the accumulated output. -/
theorem last_norm (o x : FVec Ideal S512x2048 .f32) (g : FVec Ideal S1x2048 .f32) (r : Fin 512) (e : Fin 2048) :
    k0_pay2 (F := Ideal) o x g (ix2 r e) = x (ix2 r e) + normed (fun d => o (ix2 r d)) (fun d => g (ix2 0 d)) e := by
  pointwise [k0_pay2, normed, scale]

/-- A run's first point starts from zero. -/
theorem start (r : Fin 512) (e : Fin 2048) : k0_pay4 (F := Ideal) (ix2 r e) = 0 := by
  pointwise [k0_pay4]

/-- The first half of a point's hidden units. -/
theorem first_half (h : FVec Ideal S512x2048 .bf16) (w1 : FVec Ideal S1x2048x1024 .bf16) (o : FVec Ideal S512x2048 .f32) (w2 : FVec Ideal S1x1024x2048 .bf16)
    (r : Fin 512) (e : Fin 2048) :
    k0_pay5 (F := Ideal) h w1 o w2 (ix2 r e) = o (ix2 r e) + units (fun d => h (ix2 r d)) (fun d f => w1 (ix3 0 d f)) fun f => w2 (ix3 0 f e) := by
  pointwise [k0_pay5, units, sqp]

/-- The second half of a point's hidden units. -/
theorem second_half (h : FVec Ideal S512x2048 .bf16) (w1 : FVec Ideal S1x2048x1024 .bf16) (o : FVec Ideal S512x2048 .f32) (w2 : FVec Ideal S1x1024x2048 .bf16)
    (r : Fin 512) (e : Fin 2048) :
    k0_pay1 (F := Ideal) (k0_pay6 (F := Ideal) o) (k0_pay7 (F := Ideal) h w1) w2 (ix2 r e)
      = o (ix2 r e) + units (fun d => h (ix2 r d)) (fun d f => w1 (ix3 0 d f)) fun f => w2 (ix3 0 f e) := by
  pointwise [k0_pay1, k0_pay6, k0_pay7, units, sqp]

/-- What a point adds to the accumulated output `o`: both halves of its block of hidden units. -/
def step (h : FVec Ideal S512x2048 .bf16) (w1 w2 : FVec Ideal S1x2048x2048 .bf16) (o : FVec Ideal S512x2048 .f32) : FVec Ideal S512x2048 .f32 :=
  k0_pay1 (F := Ideal)
    (k0_pay6 (F := Ideal) (k0_pay5 (F := Ideal) h
      (View.ld (S := S1x2048x2048) (e' := .bf16) (Val := Elt Ideal) w1 (Rect.unit (s := S1x2048x2048) ![0, 0, 0] S1x2048x1024.size inb_S1x2048x2048_S1x2048x1024_0_0_0)) o
      (View.ld (S := S1x2048x2048) (e' := .bf16) (Val := Elt Ideal) w2 (Rect.unit (s := S1x2048x2048) ![0, 0, 0] S1x1024x2048.size inb_S1x2048x2048_S1x1024x2048_0_0_0))))
    (k0_pay7 (F := Ideal) h (View.ld (S := S1x2048x2048) (e' := .bf16) (Val := Elt Ideal) w1 (Rect.unit (s := S1x2048x2048) ![0, 0, 1024] S1x2048x1024.size inb_S1x2048x2048_S1x2048x1024_0_0_1024)))
    (View.ld (S := S1x2048x2048) (e' := .bf16) (Val := Elt Ideal) w2 (Rect.unit (s := S1x2048x2048) ![0, 1024, 0] S1x1024x2048.size inb_S1x2048x2048_S1x1024x2048_0_1024_0))

/-- The same at one entry. -/
theorem step_apply (h : FVec Ideal S512x2048 .bf16) (w1 w2 : FVec Ideal S1x2048x2048 .bf16) (o : FVec Ideal S512x2048 .f32) (r : Fin 512) (e : Fin 2048) :
    step h w1 w2 o (ix2 r e) = o (ix2 r e) + units (fun d => h (ix2 r d)) (fun d f => w1 (ix3 0 d f)) fun f => w2 (ix3 0 f e) := by
  unfold step
  rw [second_half, first_half, units_halves, ← add_assoc]
  refine congrArg₂ (· + ·) (congrArg _ (congrArg₂ _ ?_ ?_)) (congrArg₂ _ ?_ ?_)
  · funext d f; pointwise
  · funext f; pointwise
  · funext d f; pointwise
  · funext f; pointwise

variable (m : (ℓ : Loc nD τ sig) → Buf (Elt Ideal) ℓ)

/-- What a run's first point leaves in the output block and in the kept input. -/
theorem at_first (c : Dev nD) (t : Fin cfg0.N) (h0 : t.val % 4 = 0) (h1 : ¬t.val % 4 = 3) :
    outsAt0 m c t.val t.isLt = (step (k0_pay3 (F := Ideal) (iblk m c 0 t) (iblk m c 1 t)) (iblk m c 2 t) (iblk m c 3 t) (k0_pay4 (F := Ideal)),
      k0_pay3 (F := Ideal) (iblk m c 0 t) (iblk m c 1 t)) := by
  refine Prod.ext ?_ ?_
  · rw [outsAt0_A m c t h0 h1]; frame_out; rfl
  · rw [outsAt0_A m c t h0 h1]; frame_out

/-- The kept input, read back from its buffer. -/
theorem kept (h : FVec Ideal S512x2048 .bf16) :
    View.read (Elt Ideal) (View.whole cc0_scratch0) ((Memref.isWhole_whole cc0_scratch0).unread h) = h :=
  Memref.IsWhole.read_unread (Val := Elt Ideal) (Memref.isWhole_whole cc0_scratch0) h

/-- What a middle point leaves there. -/
theorem at_middle (c : Dev nD) (t : Fin cfg0.N) (h0 : ¬t.val % 4 = 0) (h1 : ¬t.val % 4 = 3)
    (o : FVec Ideal S512x2048 .f32) (h : FVec Ideal S512x2048 .bf16) (before : outsAt0 m c (t.val - 1) (Nat.lt_of_le_of_lt (Nat.sub_le _ _) t.isLt) = (o, h)) :
    outsAt0 m c t.val t.isLt = (step h (iblk m c 2 t) (iblk m c 3 t) o, h) := by
  rw [outsAt0_B m c t h0 h1, before]
  refine Prod.ext ?_ ?_
  · frame_out
    rw [kept]
    rfl
  · rfl

/-- What a run's last point leaves in the output block. -/
theorem at_last (c : Dev nD) (t : Fin cfg0.N) (h0 : ¬t.val % 4 = 0) (h1 : t.val % 4 = 3)
    (o : FVec Ideal S512x2048 .f32) (h : FVec Ideal S512x2048 .bf16) (before : outsAt0 m c (t.val - 1) (Nat.lt_of_le_of_lt (Nat.sub_le _ _) t.isLt) = (o, h)) :
    (outsAt0 m c t.val t.isLt).1 = k0_pay2 (F := Ideal) (step h (iblk m c 2 t) (iblk m c 3 t) o) (iblk m c 0 t) (iblk m c 4 t) := by
  rw [outsAt0_C m c t h0 h1, before]
  frame_out
  rw [kept]
  rfl

end Cert.Kernel2Ideal.Ffn

end
-- ==== Proof.Ffn.Reference.lean ====
module

public import proofs.«01_k».proof.Proof.Gen.Reference2Ideal.Read
public import proofs.«01_k».proof.Proof.Ffn.Layer

@[expose] public section

set_option maxRecDepth 16384

noncomputable section

open Idealize.ShloMosaic Idealize.ShloMosaic.TcCoe Idealize.SL.Sem
open Cert.FeedForward

namespace Cert.Reference2Ideal.Layer

open Cert.Reference2Ideal Cert.Reference2Ideal.Gen Cert.Reference2Ideal.Read

variable (X : FVec Ideal S16x2048x2048 .f32) (G : FVec Ideal S2x2048 .f32) (W1 : FVec Ideal S2x2048x8192 .f32)
  (W2 : FVec Ideal S2x8192x2048 .f32) (P : FVec Ideal S2x2048 .f32)

/-- The factor of the first norm. -/
theorem scale_in (b : Fin 16) (s k : Fin 2048) : val_main_v10 (F := Ideal) X (ix3 b s k) = scale fun d => X (ix3 b s d) := by
  pointwise [val_main_v10, val_main_v9, val_main_v8, val_main_v7, val_main_v6, val_main_v5, val_main_v4, val_main_v3, val_main_v2,
    val_main_cst, val_main_cst_0, val_main_cst_1, scale]

/-- The gain of the first norm. -/
theorem gain_in (b : Fin 16) (s k : Fin 2048) : val_main_v13 (F := Ideal) G (ix3 b s k) = G (ix2 0 k) := by
  pointwise [val_main_v13, val_main_v12, val_main_v1, val_main_v0]

/-- The normalized input. -/
theorem normed_in (b : Fin 16) (s k : Fin 2048) : val_main_v14 (F := Ideal) X G (ix3 b s k)
    = normed (fun d => X (ix3 b s d)) (fun d => G (ix2 0 d)) k := by
  show _ = X (ix3 b s k) * (scale fun d => X (ix3 b s d)) * G (ix2 0 k)
  rw [← scale_in X b s k, ← gain_in G b s k]
  pointwise [val_main_v14, val_main_v11]

/-- The hidden units before their activation. -/
theorem up (b : Fin 16) (s : Fin 2048) (f : Fin 8192) : val_main_v17 (F := Ideal) X G W1 (ix3 b s f)
    = ∑ d, val_main_v14 (F := Ideal) X G (ix3 b s d) * W1 (ix3 0 d f) := by
  pointwise [val_main_v17, val_main_v16, val_main_v15]

/-- The hidden units. -/
theorem active (b : Fin 16) (s : Fin 2048) (f : Fin 8192) : val_main_v19 (F := Ideal) X G W1 (ix3 b s f)
    = sqp (val_main_v17 (F := Ideal) X G W1 (ix3 b s f)) := by
  pointwise [val_main_v19, val_main_v18, val_main_call0_v0, val_main_call0_cst, sqp]

/-- The output of the hidden units. -/
theorem down (b : Fin 16) (s e : Fin 2048) : val_main_v22 (F := Ideal) X G W1 W2 (ix3 b s e)
    = ∑ f, val_main_v19 (F := Ideal) X G W1 (ix3 b s f) * W2 (ix3 0 f e) := by
  pointwise [val_main_v22, val_main_v21, val_main_v20]

/-- The output of the hidden units, from the input. -/
theorem output (b : Fin 16) (s e : Fin 2048) : val_main_v22 (F := Ideal) X G W1 W2 (ix3 b s e)
    = units (normed (fun d => X (ix3 b s d)) (fun d => G (ix2 0 d))) (fun d f => W1 (ix3 0 d f)) fun f => W2 (ix3 0 f e) := by
  unfold units
  rw [down]
  simp only [active, up, normed_in]

/-- The factor of the second norm. -/
theorem scale_out (b : Fin 16) (s k : Fin 2048) : val_main_v33 (F := Ideal) X G W1 W2 (ix3 b s k)
    = scale fun e => val_main_v22 (F := Ideal) X G W1 W2 (ix3 b s e) := by
  pointwise [val_main_v33, val_main_v32, val_main_v31, val_main_v30, val_main_v29, val_main_v28, val_main_v27, val_main_v26, val_main_v25,
    val_main_cst_2, val_main_cst_3, val_main_cst_4, scale]

/-- The gain of the second norm. -/
theorem gain_out (b : Fin 16) (s k : Fin 2048) : val_main_v36 (F := Ideal) P (ix3 b s k) = P (ix2 0 k) := by
  pointwise [val_main_v36, val_main_v35, val_main_v24, val_main_v23]

/-- The layer's result at one entry. -/
theorem result (b : Fin 16) (s e : Fin 2048) : val_main_v38 (F := Ideal) X G W1 W2 P (ix3 b s e)
    = out (fun d => X (ix3 b s d)) (fun d => G (ix2 0 d)) (fun d f => W1 (ix3 0 d f)) (fun f e => W2 (ix3 0 f e)) (fun e => P (ix2 0 e)) e := by
  unfold out
  simp only [← output]
  show _ = X (ix3 b s e) + val_main_v22 (F := Ideal) X G W1 W2 (ix3 b s e)
    * (scale fun e => val_main_v22 (F := Ideal) X G W1 W2 (ix3 b s e)) * P (ix2 0 e)
  rw [← scale_out X G W1 W2 b s e, ← gain_out P b s e]
  pointwise [val_main_v38, val_main_v37, val_main_v34]

/-- The result's rows, batch entry after batch entry. -/
theorem flat (R : Fin 32768) (e : Fin 2048) : val_main_v39 (F := Ideal) X G W1 W2 P (ix2 R e)
    = val_main_v38 (F := Ideal) X G W1 W2 P (ix3 ⟨R.val / 2048, by omega⟩ ⟨R.val % 2048, by omega⟩ e) := by
  pointwise [val_main_v39]

end Cert.Reference2Ideal.Layer

end
-- ==== Proof.Ffn.Final.lean ====
module

public import proofs.«01_k».proof.Proof.Ffn.Point
public import proofs.«01_k».proof.Proof.Ffn.Reference
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.FeedForward

namespace Cert.Kernel2Ideal.Ffn

open Cert.Kernel2Ideal Cert.Kernel2Ideal.Gen

variable (m : (ℓ : Loc nD τ sig) → Buf (Elt Ideal) ℓ)

/-- The block each window holds at a grid point. -/
theorem idx : ∀ t : Fin cfg0.N,
    win0_0.index t = ![t.val / 4, 0] ∧ win0_1.index t = ![0, 0] ∧ win0_2.index t = ![0, 0, t.val % 4]
    ∧ win0_3.index t = ![0, t.val % 4, 0] ∧ win0_4.index t = ![0, 0] ∧ win0_5.index t = ![t.val / 4, 0] :=
  (by decide +kernel : ∀ t : Fin grid0.N, _)

/-- The rows of a grid point, as the kernel is given them. -/
theorem read_x (c : Dev nD) (t : Fin cfg0.N) (a : Fin 64) (ha : t.val / 4 = a.val) (r : Fin 512) (d : Fin 2048) :
    (show FVec Ideal S512x2048 .f32 from iblk m c 0 t) (ix2 r d)
      = (show FVec Ideal S32768x2048 .f32 from V m c main_v0) (ix2 ⟨a.val * 512 + r.val, by omega⟩ d) := by
  blk_ext [iblk, idx t, ha]

/-- The kernel's rows are the input's, batch entry after batch entry. -/
theorem rows_x (c : Dev nD) (R : Fin 32768) (d : Fin 2048) :
    (show FVec Ideal S32768x2048 .f32 from V m c main_v0) (ix2 R d)
      = (show FVec Ideal S16x2048x2048 .f32 from m ((c : Thread nD τ).loc main_arg0)) (ix3 ⟨R.val / 2048, by omega⟩ ⟨R.val % 2048, by omega⟩ d) := by
  entry_read
  pointwise

/-- The gain of the first norm at a grid point. -/
theorem read_g (c : Dev nD) (t : Fin cfg0.N) (d : Fin 2048) :
    (show FVec Ideal S1x2048 .f32 from iblk m c 1 t) (ix2 0 d) = (show FVec Ideal S1x2048 .f32 from V m c main_v3) (ix2 0 d) := by
  blk_ext [iblk, idx t]

/-- The gain of the first norm is the first row of the gains. -/
theorem row_g (c : Dev nD) (d : Fin 2048) :
    (show FVec Ideal S1x2048 .f32 from V m c main_v3) (ix2 0 d)
      = (show FVec Ideal S2x2048 .f32 from m ((c : Thread nD τ).loc main_arg1)) (ix2 0 d) := by
  entry_read
  pointwise

/-- The gain of the second norm at a grid point. -/
theorem read_p (c : Dev nD) (t : Fin cfg0.N) (d : Fin 2048) :
    (show FVec Ideal S1x2048 .f32 from iblk m c 4 t) (ix2 0 d) = (show FVec Ideal S1x2048 .f32 from V m c main_v8) (ix2 0 d) := by
  blk_ext [iblk, idx t]

/-- The gain of the second norm is the first row of the gains. -/
theorem row_p (c : Dev nD) (d : Fin 2048) :
    (show FVec Ideal S1x2048 .f32 from V m c main_v8) (ix2 0 d)
      = (show FVec Ideal S2x2048 .f32 from m ((c : Thread nD τ).loc main_arg4)) (ix2 0 d) := by
  entry_read
  pointwise

/-- The weights into a grid point's hidden units. -/
theorem read_w1 (c : Dev nD) (t : Fin cfg0.N) (j : Fin 4) (hj : t.val % 4 = j.val) (d f : Fin 2048) :
    (show FVec Ideal S1x2048x2048 .bf16 from iblk m c 2 t) (ix3 0 d f)
      = (show FVec Ideal S2x2048x8192 .bf16 from V m c main_v4) (ix3 0 d ⟨j.val * 2048 + f.val, by omega⟩) := by
  blk_ext [iblk, idx t, hj]

/-- These weights are the argument's. -/
theorem entry_w1 (c : Dev nD) (d : Fin 2048) (f : Fin 8192) :
    (show FVec Ideal S2x2048x8192 .bf16 from V m c main_v4) (ix3 0 d f)
      = (show FVec Ideal S2x2048x8192 .f32 from m ((c : Thread nD τ).loc main_arg2)) (ix3 0 d f) := by
  entry_read
  pointwise

/-- The weights out of a grid point's hidden units. -/
theorem read_w2 (c : Dev nD) (t : Fin cfg0.N) (j : Fin 4) (hj : t.val % 4 = j.val) (f e : Fin 2048) :
    (show FVec Ideal S1x2048x2048 .bf16 from iblk m c 3 t) (ix3 0 f e)
      = (show FVec Ideal S2x8192x2048 .bf16 from V m c main_v5) (ix3 0 ⟨j.val * 2048 + f.val, by omega⟩ e) := by
  blk_ext [iblk, idx t, hj]

/-- These weights are the argument's. -/
theorem entry_w2 (c : Dev nD) (f : Fin 8192) (e : Fin 2048) :
    (show FVec Ideal S2x8192x2048 .bf16 from V m c main_v5) (ix3 0 f e)
      = (show FVec Ideal S2x8192x2048 .f32 from m ((c : Thread nD τ).loc main_arg3)) (ix3 0 f e) := by
  entry_read
  pointwise

section row

variable (X : FVec Ideal S16x2048x2048 .f32) (G : FVec Ideal S2x2048 .f32) (W1 : FVec Ideal S2x2048x8192 .f32)
  (W2 : FVec Ideal S2x8192x2048 .f32) (P : FVec Ideal S2x2048 .f32)

/-- Row `r` of block `a`. -/
def rowOf (a : Fin 64) (r : Fin 512) (d : Fin 2048) : EReal :=
  X (ix3 ⟨(a.val * 512 + r.val) / 2048, by omega⟩ ⟨(a.val * 512 + r.val) % 2048, by omega⟩ d)

/-- What the hidden units of block `j` contribute to entry `e` of a normalized row. -/
def quarter (h : Fin 2048 → EReal) (j : Fin 4) (e : Fin 2048) : EReal :=
  units h (fun d (f : Fin 2048) => W1 (ix3 0 d ⟨j.val * 2048 + f.val, by omega⟩)) fun f => W2 (ix3 0 ⟨j.val * 2048 + f.val, by omega⟩ e)

/-- The four blocks of hidden units, added one after the other from zero, are all hidden units. -/
theorem quarters (h : Fin 2048 → EReal) (e : Fin 2048) :
    0 + quarter W1 W2 h 0 e + quarter W1 W2 h 1 e + quarter W1 W2 h 2 e + quarter W1 W2 h 3 e
      = units h (fun d f => W1 (ix3 0 d f)) fun f => W2 (ix3 0 f e) := by
  rw [units_quarters]
  refine congrArg₂ (· + ·) (congrArg₂ (· + ·) (congrArg₂ (· + ·) (congrArg _ ?_) ?_) ?_) ?_
  all_goals
    unfold quarter
    refine congrArg₂ _ ?_ ?_
    · funext d f; blk_ext
    · funext f; blk_ext

end row

section run

variable (c : Dev nD) (X : FVec Ideal S16x2048x2048 .f32) (G : FVec Ideal S2x2048 .f32) (W1 : FVec Ideal S2x2048x8192 .f32)
  (W2 : FVec Ideal S2x8192x2048 .f32) (P : FVec Ideal S2x2048 .f32)
  (eX : m ((c : Thread nD τ).loc main_arg0) = X) (eG : m ((c : Thread nD τ).loc main_arg1) = G) (eW1 : m ((c : Thread nD τ).loc main_arg2) = W1)
  (eW2 : m ((c : Thread nD τ).loc main_arg3) = W2) (eP : m ((c : Thread nD τ).loc main_arg4) = P)

include eX in
/-- A grid point's rows, from the input. -/
theorem block_x (t : Fin cfg0.N) (a : Fin 64) (ha : t.val / 4 = a.val) (r : Fin 512) (d : Fin 2048) :
    (show FVec Ideal S512x2048 .f32 from iblk m c 0 t) (ix2 r d) = rowOf X a r d :=
  (read_x m c t a ha r d).trans ((rows_x m c _ d).trans (congrFun eX _))

include eX eG in
/-- The normalized input a run keeps. -/
theorem kept_input (t : Fin cfg0.N) (a : Fin 64) (ha : t.val / 4 = a.val) (r : Fin 512) (d : Fin 2048) :
    k0_pay3 (F := Ideal) (iblk m c 0 t) (iblk m c 1 t) (ix2 r d) = normed (rowOf X a r) (fun d => G (ix2 0 d)) d := by
  refine (first_norm _ _ r d).trans (congrArg₂ (fun x g => normed x g d) ?_ ?_)
  · funext k; exact block_x m c X eX t a ha r k
  · funext k; exact (read_g m c t k).trans ((row_g m c k).trans (congrFun eG _))

include eW1 eW2 in
/-- What a point adds at one entry. -/
theorem point_adds (t : Fin cfg0.N) (j : Fin 4) (hj : t.val % 4 = j.val) (h : FVec Ideal S512x2048 .bf16) (o : FVec Ideal S512x2048 .f32)
    (r : Fin 512) (e : Fin 2048) :
    step h (iblk m c 2 t) (iblk m c 3 t) o (ix2 r e) = o (ix2 r e) + quarter W1 W2 (fun d => h (ix2 r d)) j e := by
  refine (step_apply h _ _ o r e).trans (congrArg _ (congrArg₂ (fun w1 w2 => units (fun d => h (ix2 r d)) w1 w2) ?_ ?_))
  · funext d f; exact (read_w1 m c t j hj d f).trans ((entry_w1 m c d _).trans (congrFun eW1 _))
  · funext f; exact (read_w2 m c t j hj f e).trans ((entry_w2 m c _ e).trans (congrFun eW2 _))

include eX eG eW1 eW2 eP in
/-- **What a run's last point leaves in its block of the result is the layer's result there.** -/
theorem last_point (t : Fin cfg0.N) (ht : t.val % 4 = 3) (a : Fin 64) (ha : t.val / 4 = a.val) (r : Fin 512) (e : Fin 2048) :
    (show FVec Ideal S512x2048 .f32 from (outsAt0 m c t.val t.isLt).1) (ix2 r e)
      = out (rowOf X a r) (fun d => G (ix2 0 d)) (fun d f => W1 (ix3 0 d f)) (fun f e => W2 (ix3 0 f e)) (fun e => P (ix2 0 e)) e := by
  have hN : t.val < cfg0.N := t.isLt
  let t0 : Fin cfg0.N := ⟨t.val - 1 - 1 - 1, by omega⟩
  let t1 : Fin cfg0.N := ⟨t.val - 1 - 1, by omega⟩
  let t2 : Fin cfg0.N := ⟨t.val - 1, by omega⟩
  have e0 := at_first m c t0 (by show (t.val - 1 - 1 - 1) % 4 = 0; omega) (by show ¬(t.val - 1 - 1 - 1) % 4 = 3; omega)
  have e1 := at_middle m c t1 (by show ¬(t.val - 1 - 1) % 4 = 0; omega) (by show ¬(t.val - 1 - 1) % 4 = 3; omega) _ _ e0
  have e2 := at_middle m c t2 (by show ¬(t.val - 1) % 4 = 0; omega) (by show ¬(t.val - 1) % 4 = 3; omega) _ _ e1
  have e3 := at_last m c t (by omega) ht _ _ e2
  have hk : ∀ d, k0_pay3 (F := Ideal) (iblk m c 0 t0) (iblk m c 1 t0) (ix2 r d) = normed (rowOf X a r) (fun d => G (ix2 0 d)) d :=
    kept_input m c X G eX eG t0 a (by show (t.val - 1 - 1 - 1) / 4 = a.val; omega) r
  show (outsAt0 m c t.val t.isLt).1 (ix2 r e) = _
  rw [e3]
  refine (last_norm _ _ _ r e).trans (congrArg₂ (· + ·) (block_x m c X eX t a ha r e) (congrArg₂ (fun o g => normed o g e) ?_ ?_))
  · funext k
    rw [point_adds m c W1 W2 eW1 eW2 t 3 ht, point_adds m c W1 W2 eW1 eW2 t2 2 (by show (t.val - 1) % 4 = 2; omega),
      point_adds m c W1 W2 eW1 eW2 t1 1 (by show (t.val - 1 - 1) % 4 = 1; omega),
      point_adds m c W1 W2 eW1 eW2 t0 0 (by show (t.val - 1 - 1 - 1) % 4 = 0; omega), start]
    simp only [hk]
    exact quarters W1 W2 _ k
  · funext k; exact (read_p m c t k).trans ((row_p m c k).trans (congrFun eP _))

include eX eG eW1 eW2 eP in
/-- **The kernel's result is the reference's.** -/
theorem final : (dats m 0 c).arrAt 5 (cfgs 0).N = Cert.Reference2Ideal.Read.val_main_v39 (F := Ideal) X G W1 W2 P := by
  refine (dats m 0 c).arrAt_eq_of_covers 5 _ (by decide +kernel) fun t hf y => ?_
  blk_simp
  rw [after0_5]
  obtain ⟨_, _, _, _, _, i5⟩ := idx t
  have hN : t.val < 256 := Nat.lt_of_lt_of_eq t.isLt N_0
  have hy : y = (ix2 (y 0) (y 1) : S512x2048.Idx) := by blk_ext
  rw [hy]
  refine (last_point m c X G W1 W2 P eX eG eW1 eW2 eP t ((flush0_5 t).mp hf) ⟨t.val / 4, by omega⟩ rfl (y 0) (y 1)).trans ?_
  refine ((Cert.Reference2Ideal.Layer.flat X G W1 W2 P ⟨t.val / 4 * 512 + (y 0).val, ?_⟩ (y 1)).trans (Cert.Reference2Ideal.Layer.result X G W1 W2 P _ _ _)).symm.trans ?_
  · have : (y 0).val < 512 := (y 0).isLt
    omega
  · refine congrArg _ ?_
    blk_ext [i5]

end run

end Cert.Kernel2Ideal.Ffn

end
-- ==== Proof.InProj.Point.lean ====
module

public import proofs.«01_k».proof.Proof.Gen.Kernel3Ideal.Value
public import proofs.«01_k».proof.Proof.Ffn.Layer

@[expose] public section

set_option maxRecDepth 16384

noncomputable section

open Idealize.ShloMosaic Idealize.ShloMosaic.TcCoe Idealize.SL.Sem
open Cert.FeedForward

namespace Cert.Kernel3Ideal.InProj

open Cert.Kernel3Ideal Cert.Kernel3Ideal.Gen

/-- The normalized input of a grid point. -/
theorem input (x : FVec Ideal S512x2048 .f32) (g : FVec Ideal S1x2048 .f32) (r : Fin 512) (k : Fin 2048) :
    k0_pay1 (F := Ideal) x g (ix2 r k) = normed (fun d => x (ix2 r d)) (fun d => g (ix2 0 d)) k := by
  pointwise [k0_pay1, normed, scale]

/-- Column `j` of the projection of a block's row `r`. -/
def entry (x : FVec Ideal S512x2048 .f32) (g : FVec Ideal S1x2048 .f32) (w : FVec Ideal S2048x3712 .bf16) (r : Fin 512) (j : Fin 3712) : EReal :=
  ∑ d, k0_pay1 (F := Ideal) x g (ix2 r d) * w (ix2 d j)

/-- The same row and the same column have the same entry. -/
theorem entry_congr (x : FVec Ideal S512x2048 .f32) (g : FVec Ideal S1x2048 .f32) (w : FVec Ideal S2048x3712 .bf16) {r r' : Fin 512} {j j' : Fin 3712}
    (hr : r.val = r'.val) (hj : j.val = j'.val) : entry x g w r j = entry x g w r' j' := by
  obtain rfl := Fin.ext hr
  obtain rfl := Fin.ext hj
  rfl

variable (m : (ℓ : Loc nD τ sig) → Buf (Elt Ideal) ℓ)

/-- The first output of a point. -/
theorem out3 (c : Dev nD) (t : Fin cfg0.N) (r : Fin 512) (e : Fin 512) :
    (show FVec Ideal S512x512 .bf16 from (outsAt0 m c t).1) (ix2 r e) = entry (iblk m c 0 t) (iblk m c 1 t) (iblk m c 2 t) r ⟨e.val, by omega⟩ := by
  unfold outsAt0
  frame_out
  pointwise [k0_pay2, entry]

/-- The second output. -/
theorem out4 (c : Dev nD) (t : Fin cfg0.N) (r : Fin 512) (e : Fin 512) :
    (show FVec Ideal S512x512 .bf16 from (outsAt0 m c t).2.1) (ix2 r e) = entry (iblk m c 0 t) (iblk m c 1 t) (iblk m c 2 t) r ⟨512 + e.val, by omega⟩ := by
  unfold outsAt0
  frame_out
  pointwise [k0_pay3, entry]

/-- The third output. -/
theorem out5 (c : Dev nD) (t : Fin cfg0.N) (r : Fin 512) (e : Fin 512) :
    (show FVec Ideal S512x512 .bf16 from (outsAt0 m c t).2.2.1) (ix2 r e) = entry (iblk m c 0 t) (iblk m c 1 t) (iblk m c 2 t) r ⟨1024 + e.val, by omega⟩ := by
  unfold outsAt0
  frame_out
  pointwise [k0_pay4, entry]

/-- The fourth output, written in two parts. -/
theorem out6 (c : Dev nD) (t : Fin cfg0.N) (r : Fin 512) (e : Fin 768) :
    (show FVec Ideal S512x768 .bf16 from (outsAt0 m c t).2.2.2.1) (ix2 r e) = entry (iblk m c 0 t) (iblk m c 1 t) (iblk m c 2 t) r ⟨1536 + e.val, by omega⟩ := by
  unfold outsAt0
  frame_out
  canon_tiles x h using View.cover_of_tiledBy _ ![512, 256] (by sl_kernel_rfl) _
  · refine Eq.trans ?_ (entry_congr _ _ _ (r := x 0) (j := ⟨2048 + (x 1).val, by omega⟩) h0.symm ?_)
    · pointwise [k0_pay6, entry]
    · have h : e.val = _ := h1
      show 2048 + (x 1).val = 1536 + e.val
      omega
  · refine Eq.trans ?_ (entry_congr _ _ _ (r := x 0) (j := ⟨1536 + (x 1).val, by omega⟩) h0.symm ?_)
    · pointwise [k0_pay5, entry]
    · have h : e.val = _ := h1
      show 1536 + (x 1).val = 1536 + e.val
      omega

/-- The fifth output, written in three parts. -/
theorem out7 (c : Dev nD) (t : Fin cfg0.N) (r : Fin 512) (e : Fin 1280) :
    (show FVec Ideal S512x1280 .bf16 from (outsAt0 m c t).2.2.2.2.1) (ix2 r e) = entry (iblk m c 0 t) (iblk m c 1 t) (iblk m c 2 t) r ⟨2304 + e.val, by omega⟩ := by
  unfold outsAt0
  frame_out
  canon_tiles x h using View.cover_of_tiledBy _ ![512, 256] (by sl_kernel_rfl) _
  · refine Eq.trans ?_ (entry_congr _ _ _ (r := x 0) (j := ⟨3328 + (x 1).val, by omega⟩) h0.symm ?_)
    · pointwise [k0_pay9, entry]
    · have h : e.val = _ := h1
      show 3328 + (x 1).val = 2304 + e.val
      omega
  · refine Eq.trans ?_ (entry_congr _ _ _ (r := x 0) (j := ⟨2816 + (x 1).val, by omega⟩) h0.symm ?_)
    · pointwise [k0_pay8, entry]
    · have h : e.val = _ := h1
      show 2816 + (x 1).val = 2304 + e.val
      omega
  · refine Eq.trans ?_ (entry_congr _ _ _ (r := x 0) (j := ⟨2304 + (x 1).val, by omega⟩) h0.symm ?_)
    · pointwise [k0_pay7, entry]
    · have h : e.val = _ := h1
      show 2304 + (x 1).val = 2304 + e.val
      omega

/-- The sixth output. -/
theorem out8 (c : Dev nD) (t : Fin cfg0.N) (r : Fin 512) (e : Fin 128) :
    (show FVec Ideal S512x128 .f32 from (outsAt0 m c t).2.2.2.2.2) (ix2 r e) = entry (iblk m c 0 t) (iblk m c 1 t) (iblk m c 2 t) r ⟨3584 + e.val, by omega⟩ := by
  unfold outsAt0
  frame_out
  pointwise [k0_pay10, entry]

end Cert.Kernel3Ideal.InProj

end
-- ==== Proof.InProj.Weights.lean ====
module

public import proofs.«01_k».proof.Proof.InProj.Point
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.FeedForward

namespace Cert.Kernel3Ideal.InProj

open Cert.Kernel3Ideal Cert.Kernel3Ideal.Gen

variable (m : (ℓ : Loc nD τ sig) → Buf (Elt Ideal) ℓ)

/-- The first 1536 columns of the weights are the argument's. -/
theorem weight_low (c : Dev nD) (d : Fin 2048) (j : Fin 1536) :
    (show FVec Ideal S2048x3712 .bf16 from V m c main_v11) (ix2 d ⟨j.val, by omega⟩)
      = (show FVec Ideal S2x2048x3672 .f32 from m ((c : Thread nD τ).loc main_arg2)) (ix3 0 d ⟨j.val, by omega⟩) := by
  show StableHlo.after hostOps0 (fun b => m (c, b)) (Proc.devRef .tc main_v11) _ = _
  after_reads_simp
  pointwise
  after_reads_simp
  pointwise

/-- The next 2048 columns are the argument's from column 1600 on. -/
theorem weight_mid (c : Dev nD) (d : Fin 2048) (j : Fin 2048) :
    (show FVec Ideal S2048x3712 .bf16 from V m c main_v11) (ix2 d ⟨1536 + j.val, by omega⟩)
      = (show FVec Ideal S2x2048x3672 .f32 from m ((c : Thread nD τ).loc main_arg2)) (ix3 0 d ⟨1600 + j.val, by omega⟩) := by
  show StableHlo.after hostOps0 (fun b => m (c, b)) (Proc.devRef .tc main_v11) _ = _
  after_reads_simp
  pointwise
  after_reads_simp
  pointwise

/-- The next 32 columns are the argument's from column 1536 on. -/
theorem weight_key1 (c : Dev nD) (d : Fin 2048) (j : Fin 32) :
    (show FVec Ideal S2048x3712 .bf16 from V m c main_v11) (ix2 d ⟨3584 + j.val, by omega⟩)
      = (show FVec Ideal S2x2048x3672 .f32 from m ((c : Thread nD τ).loc main_arg2)) (ix3 0 d ⟨1536 + j.val, by omega⟩) := by
  show StableHlo.after hostOps0 (fun b => m (c, b)) (Proc.devRef .tc main_v11) _ = _
  after_reads_simp
  pointwise
  after_reads_simp
  pointwise
  after_reads_simp
  pointwise
  rw [dif_neg (by omega), dif_neg (by omega), dif_pos (by omega)]
  exact congrArg (fun k => (show FVec Ideal S2x2048x3672 .f32 from m ((c : Thread nD τ).loc main_arg2)) (ix3 0 d k))
    (Fin.ext (by first | omega | (dsimp only; omega)))

/-- The next 24 columns are the argument's last. -/
theorem weight_steps (c : Dev nD) (d : Fin 2048) (j : Fin 24) :
    (show FVec Ideal S2048x3712 .bf16 from V m c main_v11) (ix2 d ⟨3616 + j.val, by omega⟩)
      = (show FVec Ideal S2x2048x3672 .f32 from m ((c : Thread nD τ).loc main_arg2)) (ix3 0 d ⟨3648 + j.val, by omega⟩) := by
  show StableHlo.after hostOps0 (fun b => m (c, b)) (Proc.devRef .tc main_v11) _ = _
  after_reads_simp
  pointwise
  after_reads_simp
  pointwise
  after_reads_simp
  pointwise
  rw [dif_neg (by omega), dif_neg (by omega), dif_neg (by omega), dif_pos (by omega)]
  exact congrArg (fun k => (show FVec Ideal S2x2048x3672 .f32 from m ((c : Thread nD τ).loc main_arg2)) (ix3 0 d k))
    (Fin.ext (by first | omega | (dsimp only; omega)))

/-- The next eight columns are zeros. -/
theorem weight_gap (c : Dev nD) (d : Fin 2048) (j : Fin 8) :
    (show FVec Ideal S2048x3712 .bf16 from V m c main_v11) (ix2 d ⟨3640 + j.val, by omega⟩)
      = (0 : EReal) := by
  show StableHlo.after hostOps0 (fun b => m (c, b)) (Proc.devRef .tc main_v11) _ = _
  after_reads_simp
  pointwise
  after_reads_simp
  pointwise
  after_reads_simp
  pointwise
  rw [dif_neg (by omega), dif_neg (by omega), dif_neg (by omega), dif_neg (by omega), dif_pos (by omega)]

/-- The next 32 columns are the argument's from column 1568 on. -/
theorem weight_key2 (c : Dev nD) (d : Fin 2048) (j : Fin 32) :
    (show FVec Ideal S2048x3712 .bf16 from V m c main_v11) (ix2 d ⟨3648 + j.val, by omega⟩)
      = (show FVec Ideal S2x2048x3672 .f32 from m ((c : Thread nD τ).loc main_arg2)) (ix3 0 d ⟨1568 + j.val, by omega⟩) := by
  show StableHlo.after hostOps0 (fun b => m (c, b)) (Proc.devRef .tc main_v11) _ = _
  after_reads_simp
  pointwise
  after_reads_simp
  pointwise
  after_reads_simp
  pointwise
  rw [dif_neg (by omega), dif_neg (by omega), dif_neg (by omega), dif_neg (by omega), dif_neg (by omega), dif_pos (by omega)]
  exact congrArg (fun k => (show FVec Ideal S2x2048x3672 .f32 from m ((c : Thread nD τ).loc main_arg2)) (ix3 0 d k))
    (Fin.ext (by first | omega | (dsimp only; omega)))

/-- The last 32 columns are zeros. -/
theorem weight_rest (c : Dev nD) (d : Fin 2048) (j : Fin 32) :
    (show FVec Ideal S2048x3712 .bf16 from V m c main_v11) (ix2 d ⟨3680 + j.val, by omega⟩)
      = (0 : EReal) := by
  show StableHlo.after hostOps0 (fun b => m (c, b)) (Proc.devRef .tc main_v11) _ = _
  after_reads_simp
  pointwise
  after_reads_simp
  pointwise
  after_reads_simp
  pointwise
  rw [dif_neg (by omega), dif_neg (by omega), dif_neg (by omega), dif_neg (by omega), dif_neg (by omega), dif_neg (by omega)]

end Cert.Kernel3Ideal.InProj

end
-- ==== Proof.InProj.Reference.lean ====
module

public import proofs.«01_k».proof.Proof.Gen.Reference3Ideal.Read
public import proofs.«01_k».proof.Proof.Ffn.Layer

@[expose] public section

set_option maxRecDepth 16384

noncomputable section

open Idealize.ShloMosaic Idealize.ShloMosaic.TcCoe Idealize.SL.Sem
open Cert.FeedForward

namespace Cert.Reference3Ideal.Projection

open Cert.Reference3Ideal Cert.Reference3Ideal.Gen Cert.Reference3Ideal.Read

variable (X : FVec Ideal S16x2048x2048 .f32) (G : FVec Ideal S2x2048 .f32) (W : FVec Ideal S2x2048x3672 .f32)

/-- The factor of the norm. -/
theorem scale_in (b : Fin 16) (s k : Fin 2048) : val_main_v8 (F := Ideal) X (ix3 b s k) = scale fun d => X (ix3 b s d) := by
  pointwise [val_main_v8, val_main_v7, val_main_v6, val_main_v5, val_main_v4, val_main_v3, val_main_v2, val_main_v1, val_main_v0,
    val_main_cst, val_main_cst_0, val_main_cst_1, scale]

/-- The gain of the norm. -/
theorem gain_in (b : Fin 16) (s k : Fin 2048) : val_main_v13 (F := Ideal) G (ix3 b s k) = G (ix2 0 k) := by
  pointwise [val_main_v13, val_main_v12, val_main_v11, val_main_v10]

/-- The normalized input. -/
theorem normed_in (b : Fin 16) (s k : Fin 2048) : val_main_v14 (F := Ideal) X G (ix3 b s k)
    = normed (fun d => X (ix3 b s d)) (fun d => G (ix2 0 d)) k := by
  show _ = X (ix3 b s k) * (scale fun d => X (ix3 b s d)) * G (ix2 0 k)
  rw [← scale_in X b s k, ← gain_in G b s k]
  pointwise [val_main_v14, val_main_v9]

/-- Column `j` of the projection of row `R`, batch entry after batch entry. -/
def proj (R : Fin 32768) (j : Fin 3672) : EReal :=
  ∑ d, normed (fun d => X (ix3 ⟨R.val / 2048, by omega⟩ ⟨R.val % 2048, by omega⟩ d)) (fun d => G (ix2 0 d)) d * W (ix3 0 d j)

/-- The projection. -/
theorem product (b : Fin 16) (s : Fin 2048) (j : Fin 3672) : val_main_v17 (F := Ideal) X G W (ix3 b s j)
    = ∑ d, val_main_v14 (F := Ideal) X G (ix3 b s d) * W (ix3 0 d j) := by
  pointwise [val_main_v17, val_main_v16, val_main_v15]

/-- The projection's rows. -/
theorem flat (R : Fin 32768) (j : Fin 3672) : val_main_v18 (F := Ideal) X G W (ix2 R j)
    = val_main_v17 (F := Ideal) X G W (ix3 ⟨R.val / 2048, by omega⟩ ⟨R.val % 2048, by omega⟩ j) := by
  pointwise [val_main_v18]

/-- The projection at one entry. -/
theorem columns (R : Fin 32768) (j : Fin 3672) : val_main_v18 (F := Ideal) X G W (ix2 R j) = proj X G W R j := by
  rw [flat, product]
  simp only [normed_in]
  rfl

/-- The Fourier group's input. -/
theorem fourier (R : Fin 32768) (e : Fin 512) : val_main_v32 (F := Ideal) X G W (ix2 R e) = proj X G W R ⟨e.val, by omega⟩ := by
  rw [← columns]
  pointwise [val_main_v32, val_main_v19]

/-- The queries' latents. -/
theorem query (R : Fin 32768) (e : Fin 512) : val_main_v33 (F := Ideal) X G W (ix2 R e) = proj X G W R ⟨512 + e.val, by omega⟩ := by
  rw [← columns]
  pointwise [val_main_v33, val_main_v20]

/-- The latents of the keys and values. -/
theorem key (R : Fin 32768) (e : Fin 512) : val_main_v34 (F := Ideal) X G W (ix2 R e) = proj X G W R ⟨1024 + e.val, by omega⟩ := by
  rw [← columns]
  pointwise [val_main_v34, val_main_v21]

/-- The gate. -/
theorem gate (R : Fin 32768) (e : Fin 768) : val_main_v35 (F := Ideal) X G W (ix2 R e) = proj X G W R ⟨1600 + e.val, by omega⟩ := by
  rw [← columns]
  pointwise [val_main_v35, val_main_v23]

/-- The convolution's input. -/
theorem conv (R : Fin 32768) (e : Fin 1280) : val_main_v36 (F := Ideal) X G W (ix2 R e) = proj X G W R ⟨2368 + e.val, by omega⟩ := by
  rw [← columns]
  pointwise [val_main_v36, val_main_v24]

/-- The small columns: the first half of the rotary key, the two time steps, eight zeros, the key's second half and 32 zeros. -/
theorem small (R : Fin 32768) (e : Fin 128) : val_main_v31 (F := Ideal) X G W (ix2 R e)
    = if h : e.val < 32 then proj X G W R ⟨1536 + e.val, by omega⟩
      else if h : e.val < 56 then proj X G W R ⟨3648 + (e.val - 32), by omega⟩
      else if e.val < 64 then 0
      else if h : e.val < 96 then proj X G W R ⟨1568 + (e.val - 64), by omega⟩
      else 0 := by
  simp only [← columns]
  pointwise [val_main_v31, val_main_v30, val_main_v29, val_main_v28, val_main_v27, val_main_v26, val_main_v25, val_main_v22,
    val_main_cst_2, val_main_cst_3]
  repeat' split
  all_goals first
    | omega
    | rfl
    | exact congrArg (fun k => val_main_v18 (F := Ideal) X G W (ix2 R k)) (Fin.ext (by first | omega | (dsimp only; omega)))

end Cert.Reference3Ideal.Projection

end
-- ==== Proof.InProj.Final.lean ====
module

public import proofs.«01_k».proof.Proof.InProj.Weights
public import proofs.«01_k».proof.Proof.InProj.Reference

@[expose] public section

set_option maxRecDepth 16384

noncomputable section

open Idealize.ShloMosaic Idealize.ShloMosaic.TcCoe Idealize.SL.Sem
open Idealize.ShloMosaic.Pipeline (Dat)
open Cert.FeedForward

namespace Cert.Kernel3Ideal.InProj

open Cert.Kernel3Ideal Cert.Kernel3Ideal.Gen
open Cert.Reference3Ideal.Projection (proj)

variable (m : (ℓ : Loc nD τ sig) → Buf (Elt Ideal) ℓ)

/-- The block each input window holds at a grid point. -/
theorem idx : ∀ t : Fin cfg0.N,
    win0_0.index t = ![t.val, 0] ∧ win0_1.index t = ![0, 0] ∧ win0_2.index t = ![0, 0] :=
  (by decide +kernel : ∀ t : Fin grid0.N, _)

/-- The block each output window holds at a grid point. -/
theorem idx_out : ∀ t : Fin cfg0.N,
    win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The rows of a grid point, as the kernel is given them. -/
theorem read_x (c : Dev nD) (t : Fin cfg0.N) (a : Fin 64) (ha : t.val = a.val) (r : Fin 512) (d : Fin 2048) :
    (show FVec Ideal S512x2048 .f32 from iblk m c 0 t) (ix2 r d)
      = (show FVec Ideal S32768x2048 .f32 from V m c main_v12) (ix2 ⟨a.val * 512 + r.val, by omega⟩ d) := by
  blk_ext [iblk, idx t, ha]

/-- The kernel's rows are the input's, batch entry after batch entry. -/
theorem rows_x (c : Dev nD) (R : Fin 32768) (d : Fin 2048) :
    (show FVec Ideal S32768x2048 .f32 from V m c main_v12) (ix2 R d)
      = (show FVec Ideal S16x2048x2048 .f32 from m ((c : Thread nD τ).loc main_arg0)) (ix3 ⟨R.val / 2048, by omega⟩ ⟨R.val % 2048, by omega⟩ d) := by
  entry_read
  pointwise

/-- The gain at a grid point. -/
theorem read_g (c : Dev nD) (t : Fin cfg0.N) (d : Fin 2048) :
    (show FVec Ideal S1x2048 .f32 from iblk m c 1 t) (ix2 0 d) = (show FVec Ideal S1x2048 .f32 from V m c main_v15) (ix2 0 d) := by
  blk_ext [iblk, idx t]

/-- The gain is the first row of the gains. -/
theorem row_g (c : Dev nD) (d : Fin 2048) :
    (show FVec Ideal S1x2048 .f32 from V m c main_v15) (ix2 0 d)
      = (show FVec Ideal S2x2048 .f32 from m ((c : Thread nD τ).loc main_arg1)) (ix2 0 d) := by
  entry_read
  pointwise

/-- The weights at a grid point. -/
theorem read_w (c : Dev nD) (t : Fin cfg0.N) (d : Fin 2048) (j : Fin 3712) :
    (show FVec Ideal S2048x3712 .bf16 from iblk m c 2 t) (ix2 d j) = (show FVec Ideal S2048x3712 .bf16 from V m c main_v11) (ix2 d j) := by
  blk_ext [iblk, idx t]

section run

variable (c : Dev nD) (X : FVec Ideal S16x2048x2048 .f32) (G : FVec Ideal S2x2048 .f32) (W : FVec Ideal S2x2048x3672 .f32)
  (eX : m ((c : Thread nD τ).loc main_arg0) = X) (eG : m ((c : Thread nD τ).loc main_arg1) = G) (eW : m ((c : Thread nD τ).loc main_arg2) = W)

include eX eG in
/-- The normalized input of a grid point, from the arguments. -/
theorem block_input (t : Fin cfg0.N) (a : Fin 64) (ha : t.val = a.val) (r : Fin 512) (k : Fin 2048) :
    k0_pay1 (F := Ideal) (iblk m c 0 t) (iblk m c 1 t) (ix2 r k)
      = normed (fun d => X (ix3 ⟨(a.val * 512 + r.val) / 2048, by omega⟩ ⟨(a.val * 512 + r.val) % 2048, by omega⟩ d)) (fun d => G (ix2 0 d)) k := by
  refine (input _ _ r k).trans (congrArg₂ (fun x g => normed x g k) ?_ ?_)
  · funext d; exact (read_x m c t a ha r d).trans ((rows_x m c _ d).trans (congrFun eX _))
  · funext d; exact (read_g m c t d).trans ((row_g m c d).trans (congrFun eG _))

include eX eG in
/-- A column of a block whose weights are a column of the argument. -/
theorem entry_eq (t : Fin cfg0.N) (a : Fin 64) (ha : t.val = a.val) (r : Fin 512) (j : Fin 3712) (k : Fin 3672)
    (h : ∀ d, (show FVec Ideal S2048x3712 .bf16 from V m c main_v11) (ix2 d j) = W (ix3 0 d k)) :
    entry (iblk m c 0 t) (iblk m c 1 t) (iblk m c 2 t) r j = proj X G W ⟨a.val * 512 + r.val, by omega⟩ k :=
  Finset.sum_congr rfl fun d _ => congrArg₂ (· * ·) (block_input m c X G eX eG t a ha r d) ((read_w m c t d j).trans (h d))

/-- A column of a block whose weights are zeros. -/
theorem entry_zero (t : Fin cfg0.N) (r : Fin 512) (j : Fin 3712)
    (h : ∀ d, (show FVec Ideal S2048x3712 .bf16 from V m c main_v11) (ix2 d j) = (0 : EReal)) :
    entry (iblk m c 0 t) (iblk m c 1 t) (iblk m c 2 t) r j = 0 :=
  Finset.sum_eq_zero fun d _ => (congrArg (_ * ·) ((read_w m c t d j).trans (h d))).trans (mul_zero _)

include eX eG eW in
/-- A column among the first 1536. -/
theorem entry_low (t : Fin cfg0.N) (a : Fin 64) (ha : t.val = a.val) (r : Fin 512) (j : Fin 1536) :
    entry (iblk m c 0 t) (iblk m c 1 t) (iblk m c 2 t) r ⟨j.val, by omega⟩ = proj X G W ⟨a.val * 512 + r.val, by omega⟩ ⟨j.val, by omega⟩ :=
  entry_eq m c X G W eX eG t a ha r _ _ fun d => (weight_low m c d j).trans (congrFun eW _)

include eX eG eW in
/-- A column among the next 2048. -/
theorem entry_mid (t : Fin cfg0.N) (a : Fin 64) (ha : t.val = a.val) (r : Fin 512) (j : Fin 2048) (k : Fin 3712) (hk : k.val = 1536 + j.val)
    (l : Fin 3672) (hl : l.val = 1600 + j.val) :
    entry (iblk m c 0 t) (iblk m c 1 t) (iblk m c 2 t) r k = proj X G W ⟨a.val * 512 + r.val, by omega⟩ l := by
  have ek : k = ⟨1536 + j.val, by omega⟩ := Fin.ext hk
  have el : l = ⟨1600 + j.val, by omega⟩ := Fin.ext hl
  exact entry_eq m c X G W eX eG t a ha r k l fun d =>
    (congrArg (fun k => (show FVec Ideal S2048x3712 .bf16 from V m c main_v11) (ix2 d k)) ek).trans
      ((weight_mid m c d j).trans ((congrFun eW _).trans (congrArg (fun l => W (ix3 0 d l)) el.symm)))

include eX eG eW in
/-- A small column. -/
theorem entry_small (t : Fin cfg0.N) (a : Fin 64) (ha : t.val = a.val) (r : Fin 512) (e : Fin 128) :
    entry (iblk m c 0 t) (iblk m c 1 t) (iblk m c 2 t) r ⟨3584 + e.val, by omega⟩
      = Cert.Reference3Ideal.Read.val_main_v31 (F := Ideal) X G W (ix2 ⟨a.val * 512 + r.val, by omega⟩ e) := by
  rw [Cert.Reference3Ideal.Projection.small]
  by_cases h1 : e.val < 32
  · rw [dif_pos h1]
    have ej : (⟨3584 + e.val, by omega⟩ : Fin 3712) = ⟨3584 + (e.val), by omega⟩ := Fin.ext (by first | omega | (dsimp only; omega))
    rw [ej]
    exact entry_eq m c X G W eX eG t a ha r _ _ fun d => (weight_key1 m c d ⟨e.val, by omega⟩).trans (congrFun eW _)
  rw [dif_neg h1]
  by_cases h2 : e.val < 56
  · rw [dif_pos h2]
    have ej : (⟨3584 + e.val, by omega⟩ : Fin 3712) = ⟨3616 + (e.val - 32), by omega⟩ := Fin.ext (by first | omega | (dsimp only; omega))
    rw [ej]
    exact entry_eq m c X G W eX eG t a ha r _ _ fun d => (weight_steps m c d ⟨e.val - 32, by omega⟩).trans (congrFun eW _)
  rw [dif_neg h2]
  by_cases h3 : e.val < 64
  · rw [if_pos h3]
    have ej : (⟨3584 + e.val, by omega⟩ : Fin 3712) = ⟨3640 + (e.val - 56), by omega⟩ := Fin.ext (by first | omega | (dsimp only; omega))
    rw [ej]
    exact entry_zero m c t r _ fun d => weight_gap m c d ⟨e.val - 56, by omega⟩
  rw [if_neg h3]
  by_cases h4 : e.val < 96
  · rw [dif_pos h4]
    have ej : (⟨3584 + e.val, by omega⟩ : Fin 3712) = ⟨3648 + (e.val - 64), by omega⟩ := Fin.ext (by first | omega | (dsimp only; omega))
    rw [ej]
    exact entry_eq m c X G W eX eG t a ha r _ _ fun d => (weight_key2 m c d ⟨e.val - 64, by omega⟩).trans (congrFun eW _)
  rw [dif_neg h4]
  have ej : (⟨3584 + e.val, by omega⟩ : Fin 3712) = ⟨3680 + (e.val - 96), by omega⟩ := Fin.ext (by first | omega | (dsimp only; omega))
  rw [ej]
  exact entry_zero m c t r _ fun d => weight_rest m c d ⟨e.val - 96, by omega⟩

include eX eG eW in
/-- **The Fourier group's input: the kernel's result is the reference's.** -/
theorem final3 : (dats m 0 c).arrAt 3 (cfgs 0).N = Cert.Reference3Ideal.Read.val_main_v32 (F := Ideal) X G W := by
  refine (dats m 0 c).arrAt_eq_of_covers 3 _ (by decide +kernel) fun t hf y => ?_
  blk_simp
  rw [after0_3]
  obtain ⟨i3, i4, i5, i6, i7, i8⟩ := idx_out t
  have hN : t.val < 64 := Nat.lt_of_lt_of_eq t.isLt N_0
  have hy : y = (ix2 (y 0) (y 1) : S512x512.Idx) := by blk_ext
  rw [hy]
  refine (out3 m c t (y 0) (y 1)).trans (((entry_low m c X G W eX eG eW t ⟨t.val, hN⟩ rfl (y 0) ⟨(y 1).val, by have : (y 1).val < 512 := (y 1).isLt; omega⟩).trans (Cert.Reference3Ideal.Projection.fourier X G W _ (y 1)).symm).trans (congrArg _ ?_))
  blk_ext [i3]

include eX eG eW in
/-- **The latents of the queries: the kernel's result is the reference's.** -/
theorem final4 : (dats m 0 c).arrAt 4 (cfgs 0).N = Cert.Reference3Ideal.Read.val_main_v33 (F := Ideal) X G W := by
  refine (dats m 0 c).arrAt_eq_of_covers 4 _ (by decide +kernel) fun t hf y => ?_
  blk_simp
  rw [after0_4]
  obtain ⟨i3, i4, i5, i6, i7, i8⟩ := idx_out t
  have hN : t.val < 64 := Nat.lt_of_lt_of_eq t.isLt N_0
  have hy : y = (ix2 (y 0) (y 1) : S512x512.Idx) := by blk_ext
  rw [hy]
  refine (out4 m c t (y 0) (y 1)).trans (((entry_low m c X G W eX eG eW t ⟨t.val, hN⟩ rfl (y 0) ⟨512 + (y 1).val, by have : (y 1).val < 512 := (y 1).isLt; omega⟩).trans (Cert.Reference3Ideal.Projection.query X G W _ (y 1)).symm).trans (congrArg _ ?_))
  blk_ext [i4]

include eX eG eW in
/-- **The latents of the keys and values: the kernel's result is the reference's.** -/
theorem final5 : (dats m 0 c).arrAt 5 (cfgs 0).N = Cert.Reference3Ideal.Read.val_main_v34 (F := Ideal) X G W := by
  refine (dats m 0 c).arrAt_eq_of_covers 5 _ (by decide +kernel) fun t hf y => ?_
  blk_simp
  rw [after0_5]
  obtain ⟨i3, i4, i5, i6, i7, i8⟩ := idx_out t
  have hN : t.val < 64 := Nat.lt_of_lt_of_eq t.isLt N_0
  have hy : y = (ix2 (y 0) (y 1) : S512x512.Idx) := by blk_ext
  rw [hy]
  refine (out5 m c t (y 0) (y 1)).trans (((entry_low m c X G W eX eG eW t ⟨t.val, hN⟩ rfl (y 0) ⟨1024 + (y 1).val, by have : (y 1).val < 512 := (y 1).isLt; omega⟩).trans (Cert.Reference3Ideal.Projection.key X G W _ (y 1)).symm).trans (congrArg _ ?_))
  blk_ext [i5]

include eX eG eW in
/-- **The gate: the kernel's result is the reference's.** -/
theorem final6 : (dats m 0 c).arrAt 6 (cfgs 0).N = Cert.Reference3Ideal.Read.val_main_v35 (F := Ideal) X G W := by
  refine (dats m 0 c).arrAt_eq_of_covers 6 _ (by decide +kernel) fun t hf y => ?_
  blk_simp
  rw [after0_6]
  obtain ⟨i3, i4, i5, i6, i7, i8⟩ := idx_out t
  have hN : t.val < 64 := Nat.lt_of_lt_of_eq t.isLt N_0
  have hy : y = (ix2 (y 0) (y 1) : S512x768.Idx) := by blk_ext
  rw [hy]
  refine (out6 m c t (y 0) (y 1)).trans (((entry_mid m c X G W eX eG eW t ⟨t.val, hN⟩ rfl (y 0) ⟨(y 1).val, by have : (y 1).val < 768 := (y 1).isLt; omega⟩ _ (by first | rfl | omega | (dsimp only; omega)) _ (by first | rfl | omega | (dsimp only; omega))).trans (Cert.Reference3Ideal.Projection.gate X G W _ (y 1)).symm).trans (congrArg _ ?_))
  blk_ext [i6]

include eX eG eW in
/-- **The convolution's input: the kernel's result is the reference's.** -/
theorem final7 : (dats m 0 c).arrAt 7 (cfgs 0).N = Cert.Reference3Ideal.Read.val_main_v36 (F := Ideal) X G W := by
  refine (dats m 0 c).arrAt_eq_of_covers 7 _ (by decide +kernel) fun t hf y => ?_
  blk_simp
  rw [after0_7]
  obtain ⟨i3, i4, i5, i6, i7, i8⟩ := idx_out t
  have hN : t.val < 64 := Nat.lt_of_lt_of_eq t.isLt N_0
  have hy : y = (ix2 (y 0) (y 1) : S512x1280.Idx) := by blk_ext
  rw [hy]
  refine (out7 m c t (y 0) (y 1)).trans (((entry_mid m c X G W eX eG eW t ⟨t.val, hN⟩ rfl (y 0) ⟨768 + (y 1).val, by have : (y 1).val < 1280 := (y 1).isLt; omega⟩ _ (by first | rfl | omega | (dsimp only; omega)) _ (by first | rfl | omega | (dsimp only; omega))).trans (Cert.Reference3Ideal.Projection.conv X G W _ (y 1)).symm).trans (congrArg _ ?_))
  blk_ext [i7]

include eX eG eW in
/-- **The small columns: the kernel's result is the reference's.** -/
theorem final8 : (dats m 0 c).arrAt 8 (cfgs 0).N = Cert.Reference3Ideal.Read.val_main_v31 (F := Ideal) X G W := by
  refine (dats m 0 c).arrAt_eq_of_covers 8 _ (by decide +kernel) fun t hf y => ?_
  blk_simp
  rw [after0_8]
  obtain ⟨i3, i4, i5, i6, i7, i8⟩ := idx_out t
  have hN : t.val < 64 := Nat.lt_of_lt_of_eq t.isLt N_0
  have hy : y = (ix2 (y 0) (y 1) : S512x128.Idx) := by blk_ext
  rw [hy]
  refine (out8 m c t (y 0) (y 1)).trans ((entry_small m c X G W eX eG eW t ⟨t.val, hN⟩ rfl (y 0) (y 1)).trans (congrArg _ ?_))
  blk_ext [i8]

end run

end Cert.Kernel3Ideal.InProj

end
-- ==== Proof.OutProj.Layer.lean ====
module

public import proofs.«01_k».proof.Proof.Ffn.Layer

@[expose] public section

noncomputable section

open Idealize.ShloMosaic

/-! One row of the output projection over the extended reals. -/
namespace Cert.Mixing

/-- The exponential is not negative. -/
theorem exp_nonneg (u : EReal) : 0 ≤ Ideal.exp u := by
  induction u using EReal.rec with
  | bot => exact le_refl _
  | coe r => exact EReal.coe_nonneg.mpr (Real.exp_pos r).le
  | top => exact le_top

/-- The gate `z / (1 + exp (-z))`. -/
def silu (z : EReal) : EReal := z * Ideal.div 1 (1 + Ideal.exp (-z))

/-- The gate with the quotient taken at once. -/
theorem silu_quotient (z : EReal) : Ideal.div z (1 + Ideal.exp (-z)) = silu z := by
  have h : (1 + Ideal.exp (-z)) ≠ 0 :=
    ne_of_gt (lt_of_lt_of_le zero_lt_one (le_add_of_nonneg_right (exp_nonneg _)))
  unfold silu Ideal.div
  rw [if_neg h, if_neg h, one_mul]

/-- The gated state space output: both directions and the skipped input `s` weighted by `d`, times the gate of `z`. -/
def gated (a b s d z : Fin 768 → EReal) (j : Fin 768) : EReal := (a j + b j + s j * d j) * silu (z j)

/-- The factor that brings a group to root mean square one. -/
def groupScale (y : Fin 384 → EReal) : EReal :=
  Ideal.rsqrt (Ideal.div (∑ k, y k * y k) (Ideal.ofBits .f32 0x43C00000#32) + Ideal.ofBits .f32 0x358637BD#32)

/-- The first group of a row. -/
def lower (y : Fin 768 → EReal) (k : Fin 384) : EReal := y ⟨k.val, by omega⟩

/-- The second group of a row. -/
def upper (y : Fin 768 → EReal) (k : Fin 384) : EReal := y ⟨384 + k.val, by omega⟩

/-- Both groups normalized. -/
def grouped (y : Fin 768 → EReal) (j : Fin 768) : EReal :=
  y j * (if j.val < 384 then groupScale (lower y) else groupScale (upper y))

/-- The product of the three joined outputs with the weights. -/
def mix (f : Fin 512 → EReal) (a y : Fin 768 → EReal) (w : Fin 2048 → Fin 2048 → EReal) (e : Fin 2048) : EReal :=
  ∑ k, f k * w ⟨k.val, by omega⟩ e + ∑ k, a k * w ⟨512 + k.val, by omega⟩ e + ∑ k, y k * w ⟨1280 + k.val, by omega⟩ e

/-- A sum over joined rows of 512, 768 and 768 entries. -/
theorem sum_joined (F : Fin 2048 → EReal) : ∑ k, F k
    = (∑ k : Fin 512, F ⟨k.val, by omega⟩) + (∑ k : Fin 768, F ⟨512 + k.val, by omega⟩) + ∑ k : Fin 768, F ⟨1280 + k.val, by omega⟩ := by
  refine (Fin.sum_univ_add (a := 1280) (b := 768) F).trans (congrArg (· + _) ?_)
  exact Fin.sum_univ_add (a := 512) (b := 768) fun k : Fin 1280 => F ⟨k.val, by omega⟩

/-- The product of the joined row with the weights. -/
theorem mix_joined (f : Fin 512 → EReal) (a y : Fin 768 → EReal) (w : Fin 2048 → Fin 2048 → EReal) (e : Fin 2048) :
    ∑ k : Fin 2048, (if h : k.val < 512 then f ⟨k.val, h⟩ else
        if h : k.val - 512 < 768 then a ⟨k.val - 512, h⟩ else y ⟨k.val - 512 - 768, by omega⟩) * w k e
      = mix f a y w e := by
  rw [sum_joined]
  refine congrArg₂ (· + ·) (congrArg₂ (· + ·) ?_ ?_) ?_
  · refine Finset.sum_congr rfl fun k _ => congrArg (· * _) ?_
    exact dif_pos k.isLt
  · refine Finset.sum_congr rfl fun k _ => congrArg (· * _) ?_
    have h : ¬(512 + k.val < 512) := by omega
    have h' : 512 + k.val - 512 < 768 := by omega
    refine (dif_neg h).trans ((dif_pos h').trans (congrArg a (Fin.ext ?_)))
    show 512 + k.val - 512 = k.val
    omega
  · refine Finset.sum_congr rfl fun k _ => congrArg (· * _) ?_
    have h : ¬(1280 + k.val < 512) := by omega
    have h' : ¬(1280 + k.val - 512 < 768) := by omega
    refine (dif_neg h).trans ((dif_neg h').trans (congrArg y (Fin.ext ?_)))
    show 1280 + k.val - 512 - 768 = k.val
    omega

/-- The result of a row: the row plus the normalized product. -/
def out (x : Fin 2048 → EReal) (f : Fin 512 → EReal) (a y g : Fin 768 → EReal) (w : Fin 2048 → Fin 2048 → EReal) (p : Fin 2048 → EReal)
    (e : Fin 2048) : EReal :=
  x e + Cert.FeedForward.normed (mix f a (fun j => grouped y j * g j) w) p e

end Cert.Mixing

end
-- ==== Proof.OutProj.Point.lean ====
module

public import proofs.«01_k».proof.Proof.Gen.Kernel4Ideal.Value
public import proofs.«01_k».proof.Proof.OutProj.Layer

@[expose] public section

set_option maxRecDepth 16384

noncomputable section

open Idealize.ShloMosaic Idealize.ShloMosaic.TcCoe Idealize.SL.Sem
open Cert.FeedForward (normed scale)
open Cert.Mixing

namespace Cert.Kernel4Ideal.OutProj

open Cert.Kernel4Ideal Cert.Kernel4Ideal.Gen

section gate

variable (a b s : FVec Ideal S512x768 .bf16) (d : FVec Ideal S1x768 .f32) (z : FVec Ideal S512x768 .bf16)

/-- The gated state space output of a block. -/
theorem gate (r : Fin 512) (j : Fin 768) : k0_pay2 (F := Ideal) a b s d z (ix2 r j)
    = gated (fun j => a (ix2 r j)) (fun j => b (ix2 r j)) (fun j => s (ix2 r j)) (fun j => d (ix2 0 j)) (fun j => z (ix2 r j)) j := by
  unfold gated
  simp only [← silu_quotient]
  pointwise [k0_pay2]
  rw [zero_sub]

/-- The first group, normalized. -/
theorem group1 (r : Fin 512) (k : Fin 384) : k0_pay3 (F := Ideal) a b s d z (ix2 r k)
    = lower (fun j => k0_pay2 (F := Ideal) a b s d z (ix2 r j)) k * groupScale (lower fun j => k0_pay2 (F := Ideal) a b s d z (ix2 r j)) := by
  pointwise [k0_pay3, lower, groupScale]

/-- The second group. -/
theorem group2 (r : Fin 512) (k : Fin 384) : k0_pay4 (F := Ideal) a b s d z (ix2 r k)
    = upper (fun j => k0_pay2 (F := Ideal) a b s d z (ix2 r j)) k := by
  pointwise [k0_pay4, upper]

/-- The mean square of the second group. -/
theorem square2 (r : Fin 512) : k0_pay5 (F := Ideal) a b s d z (ix2 r 0)
    = Ideal.div (∑ k, k0_pay4 (F := Ideal) a b s d z (ix2 r k) * k0_pay4 (F := Ideal) a b s d z (ix2 r k)) (Ideal.ofBits .f32 0x43C00000#32) := by
  pointwise [k0_pay5]

/-- Both groups side by side. -/
theorem groups (r : Fin 512) (j : Fin 768) :
    (if h : j.val < 384 then k0_pay3 (F := Ideal) a b s d z (ix2 r ⟨j.val, h⟩) else k0_pay4 (F := Ideal) a b s d z (ix2 r ⟨j.val - 384, by omega⟩)
        * Ideal.rsqrt (k0_pay5 (F := Ideal) a b s d z (ix2 r 0) + Ideal.ofBits .f32 0x358637BD#32))
      = grouped (gated (fun j => a (ix2 r j)) (fun j => b (ix2 r j)) (fun j => s (ix2 r j)) (fun j => d (ix2 0 j)) fun j => z (ix2 r j)) j := by
  have hy := funext (gate a b s d z r)
  unfold grouped
  by_cases h : j.val < 384
  · rw [dif_pos h, if_pos h, group1, hy]
    rfl
  · rw [dif_neg h, if_neg h, square2]
    simp only [group2, hy]
    refine congrArg (· * _) (congrArg (gated _ _ _ _ _) (Fin.ext ?_))
    show 384 + (j.val - 384) = j.val
    omega

end gate

/-- What a point stores. -/
theorem stored (x y : FVec Ideal S512x2048 .f32) (p : FVec Ideal S1x2048 .f32) (r : Fin 512) (e : Fin 2048) :
    k0_pay1 (F := Ideal) (k0_pay6 (F := Ideal) x) y p (ix2 r e) = x (ix2 r e) + y (ix2 r e) * p (ix2 0 e) := by
  pointwise [k0_pay1, k0_pay6]

/-- The normalized product. -/
theorem product (u v : FVec Ideal S512x384 .f32) (q : FVec Ideal S512x1 .f32) (eps : Ideal .f32) (g : FVec Ideal S1x768 .f32)
    (f : FVec Ideal S512x512 .bf16) (w1 : FVec Ideal S512x2048 .bf16) (a : FVec Ideal S512x768 .bf16) (w2 w3 : FVec Ideal S768x2048 .bf16)
    (r : Fin 512) (e : Fin 2048) :
    k0_pay7 (F := Ideal) u v q eps g f w1 a w2 w3 (ix2 r e)
      = (∑ k, f (ix2 r k) * w1 (ix2 k e) + ∑ k, a (ix2 r k) * w2 (ix2 k e)
          + ∑ k : Fin 768, ((if h : k.val < 384 then u (ix2 r ⟨k.val, h⟩) else v (ix2 r ⟨k.val - 384, by omega⟩) * Ideal.rsqrt (q (ix2 r 0) + eps)) * g (ix2 0 k)) * w3 (ix2 k e))
        * scale fun e => ∑ k, f (ix2 r k) * w1 (ix2 k e) + ∑ k, a (ix2 r k) * w2 (ix2 k e)
          + ∑ k : Fin 768, ((if h : k.val < 384 then u (ix2 r ⟨k.val, h⟩) else v (ix2 r ⟨k.val - 384, by omega⟩) * Ideal.rsqrt (q (ix2 r 0) + eps)) * g (ix2 0 k)) * w3 (ix2 k e) := by
  unfold scale
  pointwise [k0_pay7]

/-- **What a point leaves in its block of the result.** -/
theorem point (x : FVec Ideal S512x2048 .f32) (f : FVec Ideal S512x512 .bf16) (a yf yb s z : FVec Ideal S512x768 .bf16) (d g : FVec Ideal S1x768 .f32)
    (w : FVec Ideal S2048x2048 .bf16) (p : FVec Ideal S1x2048 .f32) (r : Fin 512) (e : Fin 2048) :
    (show FVec Ideal S512x2048 .f32 from out0_11 (F := Ideal) x f a yf yb s z d g w p) (ix2 r e)
      = out (fun d => x (ix2 r d)) (fun k => f (ix2 r k)) (fun k => a (ix2 r k))
          (gated (fun j => yf (ix2 r j)) (fun j => yb (ix2 r j)) (fun j => s (ix2 r j)) (fun j => d (ix2 0 j)) fun j => z (ix2 r j))
          (fun j => g (ix2 0 j)) (fun k e => w (ix2 k e)) (fun e => p (ix2 0 e)) e := by
  unfold out0_11
  frame_out
  rw [stored, product]
  unfold out normed
  have hm : ∀ e, (∑ k, f (ix2 r k) * (show FVec Ideal S512x2048 .bf16 from View.ld (S := S2048x2048) (e' := .bf16) (Val := Elt Ideal) w r0_3) (ix2 k e) + ∑ k, a (ix2 r k) * (show FVec Ideal S768x2048 .bf16 from View.ld (S := S2048x2048) (e' := .bf16) (Val := Elt Ideal) w r0_4) (ix2 k e)
          + ∑ k : Fin 768, ((if h : k.val < 384 then k0_pay3 (F := Ideal) yf yb s d z (ix2 r ⟨k.val, h⟩) else k0_pay4 (F := Ideal) yf yb s d z (ix2 r ⟨k.val - 384, by omega⟩)
            * Ideal.rsqrt (k0_pay5 (F := Ideal) yf yb s d z (ix2 r 0) + Ideal.ofBits .f32 0x358637BD#32)) * g (ix2 0 k)) * (show FVec Ideal S768x2048 .bf16 from View.ld (S := S2048x2048) (e' := .bf16) (Val := Elt Ideal) w r0_5) (ix2 k e))
      = mix (fun k => f (ix2 r k)) (fun k => a (ix2 r k)) (fun j => grouped (gated (fun j => yf (ix2 r j)) (fun j => yb (ix2 r j)) (fun j => s (ix2 r j))
          (fun j => d (ix2 0 j)) fun j => z (ix2 r j)) j * g (ix2 0 j)) (fun k e => w (ix2 k e)) e := by
    intro e
    unfold mix
    refine congrArg₂ (· + ·) (congrArg₂ (· + ·) ?_ ?_) ?_
    · refine Finset.sum_congr rfl fun k _ => congrArg _ ?_
      pointwise
    · refine Finset.sum_congr rfl fun k _ => congrArg _ ?_
      pointwise
    · refine Finset.sum_congr rfl fun k _ => congrArg₂ (· * ·) (congrArg (· * _) (groups yf yb s d z r k)) ?_
      pointwise
  exact congrArg (x (ix2 r e) + ·) (congrArg (· * p (ix2 0 e)) (congrArg₂ (· * ·) (hm e) (congrArg scale (funext hm))))

end Cert.Kernel4Ideal.OutProj

end
-- ==== Proof.OutProj.Reference.lean ====
module

public import proofs.«01_k».proof.Proof.Gen.Reference4Ideal.Read
public import proofs.«01_k».proof.Proof.OutProj.Layer

@[expose] public section

set_option maxRecDepth 16384

noncomputable section

open Idealize.ShloMosaic Idealize.ShloMosaic.TcCoe Idealize.SL.Sem
open Cert.FeedForward (normed scale)
open Cert.Mixing

namespace Cert.Reference4Ideal.Mixer

open Cert.Reference4Ideal Cert.Reference4Ideal.Gen Cert.Reference4Ideal.Read

variable (X : FVec Ideal S16x2048x2048 .f32) (FO : FVec Ideal S16x2048x512 .bf16) (MO YF YB XS : FVec Ideal S16x2048x768 .bf16)
  (Z : FVec Ideal S32768x768 .bf16) (D : FVec Ideal S2x12 .f32) (NG : FVec Ideal S2x768 .f32) (W : FVec Ideal S2x2048x2048 .f32) (PG : FVec Ideal S2x2048 .f32)

/-- The weight of the skipped input at a column: that of its head. -/
def skip (j : Fin 768) : EReal := D (ix2 0 ⟨j.val / 64, by omega⟩)

/-- The sum of both directions and the weighted skipped input. -/
theorem summed (b : Fin 16) (s : Fin 2048) (j : Fin 768) : val_main_v17 (F := Ideal) YF YB XS D (ix3 b s j)
    = YF (ix3 b s j) + YB (ix3 b s j) + XS (ix3 b s j) * skip D j := by
  pointwise [val_main_v17, val_main_v16, val_main_v15, val_main_v14, val_main_v13, val_main_v12, val_main_v11, val_main_v10,
    val_main_v9, val_main_v8, val_main_v7, val_main_v6, val_main_v4, val_main_v3, val_main_v2, skip]

/-- The gate. -/
theorem gate (b : Fin 16) (s : Fin 2048) (j : Fin 768) : val_main_v19 (F := Ideal) Z (ix3 b s j)
    = silu (Z (ix2 ⟨b.val * 2048 + s.val, by omega⟩ j)) := by
  pointwise [val_main_v19, val_main_call0_v5, val_main_call0_v4, val_main_call0_cst_0, val_main_call0_v3, val_main_call0_v2, val_main_call0_cst,
    val_main_call0_v1, val_main_call0_v0, val_main_v18, val_main_v5, silu]

/-- The gated output. -/
def row (b : Fin 16) (s : Fin 2048) (j : Fin 768) : EReal :=
  gated (fun j => YF (ix3 b s j)) (fun j => YB (ix3 b s j)) (fun j => XS (ix3 b s j)) (skip D) (fun j => Z (ix2 ⟨b.val * 2048 + s.val, by omega⟩ j)) j

/-- The gated output at one entry. -/
theorem gated_row (b : Fin 16) (s : Fin 2048) (j : Fin 768) : val_main_v20 (F := Ideal) YF YB XS Z D (ix3 b s j) = row YF YB XS Z D b s j := by
  unfold row gated
  rw [← gate, ← summed]
  pointwise [val_main_v20]

/-- The groups' factor. -/
theorem factor (b : Fin 16) (s : Fin 2048) (n : Fin 2) (k : Fin 384) : val_main_v30 (F := Ideal) YF YB XS Z D (ix4 b s n k)
    = groupScale fun k => val_main_v21 (F := Ideal) YF YB XS Z D (ix4 b s n k) := by
  pointwise [val_main_v30, val_main_v29, val_main_v28, val_main_v27, val_main_v26, val_main_v25, val_main_v24, val_main_v23, val_main_v22,
    val_main_cst, val_main_cst_0, val_main_cst_1, groupScale]

/-- The entries of a group. -/
theorem member (b : Fin 16) (s : Fin 2048) (n : Fin 2) (k : Fin 384) : val_main_v21 (F := Ideal) YF YB XS Z D (ix4 b s n k)
    = val_main_v20 (F := Ideal) YF YB XS Z D (ix3 b s ⟨n.val * 384 + k.val, by omega⟩) := by
  pointwise [val_main_v21]

/-- A normalized entry. -/
theorem normalized (b : Fin 16) (s : Fin 2048) (n : Fin 2) (k : Fin 384) : val_main_v31 (F := Ideal) YF YB XS Z D (ix4 b s n k)
    = val_main_v21 (F := Ideal) YF YB XS Z D (ix4 b s n k) * val_main_v30 (F := Ideal) YF YB XS Z D (ix4 b s n k) := by
  pointwise [val_main_v31]

/-- The groups side by side, weighted. -/
theorem weighted (b : Fin 16) (s : Fin 2048) (j : Fin 768) : val_main_v37 (F := Ideal) YF YB XS Z D NG (ix3 b s j)
    = val_main_v31 (F := Ideal) YF YB XS Z D (ix4 b s ⟨j.val / 384, by omega⟩ ⟨j.val % 384, by omega⟩) * NG (ix2 0 j) := by
  pointwise [val_main_v37, val_main_v36, val_main_v35, val_main_v34, val_main_v33, val_main_v32]

/-- The product of the joined outputs with the weights. -/
theorem product (b : Fin 16) (s e : Fin 2048) : val_main_v41 (F := Ideal) FO MO YF YB XS Z D NG W (ix3 b s e)
    = mix (fun k => FO (ix3 b s k)) (fun k => MO (ix3 b s k)) (fun k => val_main_v37 (F := Ideal) YF YB XS Z D NG (ix3 b s k)) (fun k e => W (ix3 0 k e)) e := by
  rw [← mix_joined]
  pointwise [val_main_v41, val_main_v40, val_main_v39, val_main_v38, val_main_v1, val_main_v0]

/-- The factor of the last norm. -/
theorem scale_out (b : Fin 16) (s k : Fin 2048) : val_main_v50 (F := Ideal) FO MO YF YB XS Z D NG W (ix3 b s k)
    = scale fun e => val_main_v41 (F := Ideal) FO MO YF YB XS Z D NG W (ix3 b s e) := by
  pointwise [val_main_v50, val_main_v49, val_main_v48, val_main_v47, val_main_v46, val_main_v45, val_main_v44, val_main_v43, val_main_v42,
    val_main_cst_2, val_main_cst_3, val_main_cst_4, scale]

/-- The gain of the last norm. -/
theorem gain_out (b : Fin 16) (s k : Fin 2048) : val_main_v55 (F := Ideal) PG (ix3 b s k) = PG (ix2 0 k) := by
  pointwise [val_main_v55, val_main_v54, val_main_v53, val_main_v52]

/-- The weighted groups, from the gated output. -/
theorem groups (b : Fin 16) (s : Fin 2048) (j : Fin 768) : val_main_v37 (F := Ideal) YF YB XS Z D NG (ix3 b s j)
    = grouped (row YF YB XS Z D b s) j * NG (ix2 0 j) := by
  rw [weighted, normalized, factor, member]
  simp only [member, gated_row]
  refine congrArg (· * NG (ix2 0 j)) ?_
  unfold grouped
  refine congrArg₂ (· * ·) (congrArg (row YF YB XS Z D b s) (Fin.ext ?_)) ?_
  · show j.val / 384 * 384 + j.val % 384 = j.val
    omega
  by_cases h : j.val < 384
  · rw [if_pos h]
    refine congrArg groupScale (funext fun k => congrArg (row YF YB XS Z D b s) (Fin.ext ?_))
    show j.val / 384 * 384 + k.val = k.val
    omega
  · rw [if_neg h]
    refine congrArg groupScale (funext fun k => congrArg (row YF YB XS Z D b s) (Fin.ext ?_))
    show j.val / 384 * 384 + k.val = 384 + k.val
    omega

/-- The result at one entry. -/
theorem result (b : Fin 16) (s e : Fin 2048) : val_main_v57 (F := Ideal) X FO MO YF YB XS Z D NG W PG (ix3 b s e)
    = out (fun d => X (ix3 b s d)) (fun k => FO (ix3 b s k)) (fun k => MO (ix3 b s k)) (row YF YB XS Z D b s) (fun j => NG (ix2 0 j))
        (fun k e => W (ix3 0 k e)) (fun e => PG (ix2 0 e)) e := by
  unfold out normed
  simp only [← groups]
  have hp := funext fun e => (product FO MO YF YB XS Z D NG W b s e).symm
  rw [hp]
  show _ = X (ix3 b s e) + val_main_v41 (F := Ideal) FO MO YF YB XS Z D NG W (ix3 b s e)
    * (scale fun e => val_main_v41 (F := Ideal) FO MO YF YB XS Z D NG W (ix3 b s e)) * PG (ix2 0 e)
  rw [← scale_out FO MO YF YB XS Z D NG W b s e, ← gain_out PG b s e]
  pointwise [val_main_v57, val_main_v56, val_main_v51]

/-- The result's rows, batch entry after batch entry. -/
theorem flat (R : Fin 32768) (e : Fin 2048) : val_main_v58 (F := Ideal) X FO MO YF YB XS Z D NG W PG (ix2 R e)
    = val_main_v57 (F := Ideal) X FO MO YF YB XS Z D NG W PG (ix3 ⟨R.val / 2048, by omega⟩ ⟨R.val % 2048, by omega⟩ e) := by
  pointwise [val_main_v58]

end Cert.Reference4Ideal.Mixer

end
-- ==== Proof.OutProj.Final.lean ====
module

public import proofs.«01_k».proof.Proof.OutProj.Point
public import proofs.«01_k».proof.Proof.OutProj.Reference

@[expose] public section

set_option maxRecDepth 16384

noncomputable section

open Idealize.ShloMosaic Idealize.ShloMosaic.TcCoe Idealize.SL.Sem
open Idealize.ShloMosaic.Pipeline (Dat)
open Cert.Mixing

namespace Cert.Kernel4Ideal.OutProj

open Cert.Kernel4Ideal Cert.Kernel4Ideal.Gen
open Cert.Reference4Ideal.Mixer (skip row)

variable (m : (ℓ : Loc nD τ sig) → Buf (Elt Ideal) ℓ)

/-- The block each window of rows holds at a grid point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_11.index t = ![t.val, 0] :=
  (by decide +kernel : ∀ t : Fin grid0.N, _)

/-- The other windows hold all of their array. -/
theorem idx_whole : ∀ t : Fin cfg0.N,
    win0_7.index t = ![0, 0] ∧ win0_8.index t = ![0, 0] ∧ win0_9.index t = ![0, 0] ∧ win0_10.index t = ![0, 0] :=
  (by decide +kernel : ∀ t : Fin grid0.N, _)

/-- The rows of a grid point, as the kernel is given them. -/
theorem read_x (c : Dev nD) (t : Fin cfg0.N) (a : Fin 64) (ha : t.val = a.val) (r : Fin 512) (d : Fin 2048) :
    (show FVec Ideal S512x2048 .f32 from iblk m c 0 t) (ix2 r d)
      = (show FVec Ideal S32768x2048 .f32 from V m c main_v0) (ix2 ⟨a.val * 512 + r.val, by omega⟩ d) := by
  blk_ext [iblk, idx t, ha]

/-- The kernel's rows are the input's, batch entry after batch entry. -/
theorem rows_x (c : Dev nD) (R : Fin 32768) (d : Fin 2048) :
    (show FVec Ideal S32768x2048 .f32 from V m c main_v0) (ix2 R d)
      = (show FVec Ideal S16x2048x2048 .f32 from m ((c : Thread nD τ).loc main_arg0)) (ix3 ⟨R.val / 2048, by omega⟩ ⟨R.val % 2048, by omega⟩ d) := by
  entry_read
  pointwise

/-- The Fourier output's rows at a grid point. -/
theorem read_fo (c : Dev nD) (t : Fin cfg0.N) (a : Fin 64) (ha : t.val = a.val) (r : Fin 512) (d : Fin 512) :
    (show FVec Ideal S512x512 .bf16 from iblk m c 1 t) (ix2 r d)
      = (show FVec Ideal S32768x512 .bf16 from V m c main_v1) (ix2 ⟨a.val * 512 + r.val, by omega⟩ d) := by
  blk_ext [iblk, idx t, ha]

/-- These rows are the argument's. -/
theorem rows_fo (c : Dev nD) (R : Fin 32768) (d : Fin 512) :
    (show FVec Ideal S32768x512 .bf16 from V m c main_v1) (ix2 R d)
      = (show FVec Ideal S16x2048x512 .bf16 from m ((c : Thread nD τ).loc main_arg1)) (ix3 ⟨R.val / 2048, by omega⟩ ⟨R.val % 2048, by omega⟩ d) := by
  entry_read
  pointwise

/-- The attention output's rows at a grid point. -/
theorem read_mo (c : Dev nD) (t : Fin cfg0.N) (a : Fin 64) (ha : t.val = a.val) (r : Fin 512) (d : Fin 768) :
    (show FVec Ideal S512x768 .bf16 from iblk m c 2 t) (ix2 r d)
      = (show FVec Ideal S32768x768 .bf16 from V m c main_v2) (ix2 ⟨a.val * 512 + r.val, by omega⟩ d) := by
  blk_ext [iblk, idx t, ha]

/-- These rows are the argument's. -/
theorem rows_mo (c : Dev nD) (R : Fin 32768) (d : Fin 768) :
    (show FVec Ideal S32768x768 .bf16 from V m c main_v2) (ix2 R d)
      = (show FVec Ideal S16x2048x768 .bf16 from m ((c : Thread nD τ).loc main_arg2)) (ix3 ⟨R.val / 2048, by omega⟩ ⟨R.val % 2048, by omega⟩ d) := by
  entry_read
  pointwise

/-- The forward state space output's rows at a grid point. -/
theorem read_yf (c : Dev nD) (t : Fin cfg0.N) (a : Fin 64) (ha : t.val = a.val) (r : Fin 512) (d : Fin 768) :
    (show FVec Ideal S512x768 .bf16 from iblk m c 3 t) (ix2 r d)
      = (show FVec Ideal S32768x768 .bf16 from V m c main_v3) (ix2 ⟨a.val * 512 + r.val, by omega⟩ d) := by
  blk_ext [iblk, idx t, ha]

/-- These rows are the argument's. -/
theorem rows_yf (c : Dev nD) (R : Fin 32768) (d : Fin 768) :
    (show FVec Ideal S32768x768 .bf16 from V m c main_v3) (ix2 R d)
      = (show FVec Ideal S16x2048x768 .bf16 from m ((c : Thread nD τ).loc main_arg3)) (ix3 ⟨R.val / 2048, by omega⟩ ⟨R.val % 2048, by omega⟩ d) := by
  entry_read
  pointwise

/-- The backward state space output's rows at a grid point. -/
theorem read_yb (c : Dev nD) (t : Fin cfg0.N) (a : Fin 64) (ha : t.val = a.val) (r : Fin 512) (d : Fin 768) :
    (show FVec Ideal S512x768 .bf16 from iblk m c 4 t) (ix2 r d)
      = (show FVec Ideal S32768x768 .bf16 from V m c main_v4) (ix2 ⟨a.val * 512 + r.val, by omega⟩ d) := by
  blk_ext [iblk, idx t, ha]

/-- These rows are the argument's. -/
theorem rows_yb (c : Dev nD) (R : Fin 32768) (d : Fin 768) :
    (show FVec Ideal S32768x768 .bf16 from V m c main_v4) (ix2 R d)
      = (show FVec Ideal S16x2048x768 .bf16 from m ((c : Thread nD τ).loc main_arg4)) (ix3 ⟨R.val / 2048, by omega⟩ ⟨R.val % 2048, by omega⟩ d) := by
  entry_read
  pointwise

/-- The skipped input's rows at a grid point. -/
theorem read_xs (c : Dev nD) (t : Fin cfg0.N) (a : Fin 64) (ha : t.val = a.val) (r : Fin 512) (d : Fin 768) :
    (show FVec Ideal S512x768 .bf16 from iblk m c 5 t) (ix2 r d)
      = (show FVec Ideal S32768x768 .bf16 from V m c main_v5) (ix2 ⟨a.val * 512 + r.val, by omega⟩ d) := by
  blk_ext [iblk, idx t, ha]

/-- These rows are the argument's. -/
theorem rows_xs (c : Dev nD) (R : Fin 32768) (d : Fin 768) :
    (show FVec Ideal S32768x768 .bf16 from V m c main_v5) (ix2 R d)
      = (show FVec Ideal S16x2048x768 .bf16 from m ((c : Thread nD τ).loc main_arg5)) (ix3 ⟨R.val / 2048, by omega⟩ ⟨R.val % 2048, by omega⟩ d) := by
  entry_read
  pointwise

/-- The gate's rows at a grid point. -/
theorem read_z (c : Dev nD) (t : Fin cfg0.N) (a : Fin 64) (ha : t.val = a.val) (r : Fin 512) (d : Fin 768) :
    (show FVec Ideal S512x768 .bf16 from iblk m c 6 t) (ix2 r d)
      = (show FVec Ideal S32768x768 .bf16 from V m c main_arg6) (ix2 ⟨a.val * 512 + r.val, by omega⟩ d) := by
  blk_ext [iblk, idx t, ha]

/-- The skipped input's weights at a grid point. -/
theorem read_d (c : Dev nD) (t : Fin cfg0.N) (d : Fin 768) :
    (show FVec Ideal S1x768 .f32 from iblk m c 7 t) (ix2 0 d) = (show FVec Ideal S1x768 .f32 from V m c main_v10) (ix2 0 d) := by
  blk_ext [iblk, idx_whole t]

/-- These weights are those of the columns' heads. -/
theorem row_d (c : Dev nD) (d : Fin 768) :
    (show FVec Ideal S1x768 .f32 from V m c main_v10) (ix2 0 d)
      = skip (show FVec Ideal S2x12 .f32 from m ((c : Thread nD τ).loc main_arg7)) d := by
  entry_read
  pointwise [skip]

/-- The gain of the groups at a grid point. -/
theorem read_g (c : Dev nD) (t : Fin cfg0.N) (d : Fin 768) :
    (show FVec Ideal S1x768 .f32 from iblk m c 8 t) (ix2 0 d) = (show FVec Ideal S1x768 .f32 from V m c main_v13) (ix2 0 d) := by
  blk_ext [iblk, idx_whole t]

/-- The gain of the groups is the first row of the gains. -/
theorem row_g (c : Dev nD) (d : Fin 768) :
    (show FVec Ideal S1x768 .f32 from V m c main_v13) (ix2 0 d)
      = (show FVec Ideal S2x768 .f32 from m ((c : Thread nD τ).loc main_arg8)) (ix2 0 d) := by
  entry_read
  pointwise

/-- The weights at a grid point. -/
theorem read_w (c : Dev nD) (t : Fin cfg0.N) (k e : Fin 2048) :
    (show FVec Ideal S2048x2048 .bf16 from iblk m c 9 t) (ix2 k e) = (show FVec Ideal S2048x2048 .bf16 from V m c main_v16) (ix2 k e) := by
  blk_ext [iblk, idx_whole t]

/-- The weights are the first of the argument's. -/
theorem entry_w (c : Dev nD) (k e : Fin 2048) :
    (show FVec Ideal S2048x2048 .bf16 from V m c main_v16) (ix2 k e)
      = (show FVec Ideal S2x2048x2048 .f32 from m ((c : Thread nD τ).loc main_arg9)) (ix3 0 k e) := by
  entry_read
  pointwise

/-- The gain of the last norm at a grid point. -/
theorem read_p (c : Dev nD) (t : Fin cfg0.N) (d : Fin 2048) :
    (show FVec Ideal S1x2048 .f32 from iblk m c 10 t) (ix2 0 d) = (show FVec Ideal S1x2048 .f32 from V m c main_v19) (ix2 0 d) := by
  blk_ext [iblk, idx_whole t]

/-- The gain of the last norm is the first row of the gains. -/
theorem row_p (c : Dev nD) (d : Fin 2048) :
    (show FVec Ideal S1x2048 .f32 from V m c main_v19) (ix2 0 d)
      = (show FVec Ideal S2x2048 .f32 from m ((c : Thread nD τ).loc main_arg10)) (ix2 0 d) := by
  entry_read
  pointwise

section run

variable (c : Dev nD) (X : FVec Ideal S16x2048x2048 .f32) (FO : FVec Ideal S16x2048x512 .bf16) (MO YF YB XS : FVec Ideal S16x2048x768 .bf16)
  (Z : FVec Ideal S32768x768 .bf16) (D : FVec Ideal S2x12 .f32) (NG : FVec Ideal S2x768 .f32) (W : FVec Ideal S2x2048x2048 .f32) (PG : FVec Ideal S2x2048 .f32)
  (eX : m ((c : Thread nD τ).loc main_arg0) = X) (eFO : m ((c : Thread nD τ).loc main_arg1) = FO) (eMO : m ((c : Thread nD τ).loc main_arg2) = MO)
  (eYF : m ((c : Thread nD τ).loc main_arg3) = YF) (eYB : m ((c : Thread nD τ).loc main_arg4) = YB) (eXS : m ((c : Thread nD τ).loc main_arg5) = XS)
  (eZ : m ((c : Thread nD τ).loc main_arg6) = Z) (eD : m ((c : Thread nD τ).loc main_arg7) = D) (eNG : m ((c : Thread nD τ).loc main_arg8) = NG)
  (eW : m ((c : Thread nD τ).loc main_arg9) = W) (ePG : m ((c : Thread nD τ).loc main_arg10) = PG)

include eYF eYB eXS eZ eD in
/-- The gated output of a grid point's row, from the arguments. -/
theorem block_row (t : Fin cfg0.N) (a : Fin 64) (ha : t.val = a.val) (r : Fin 512) :
    gated (fun j => (show FVec Ideal S512x768 .bf16 from iblk m c 3 t) (ix2 r j)) (fun j => (show FVec Ideal S512x768 .bf16 from iblk m c 4 t) (ix2 r j))
        (fun j => (show FVec Ideal S512x768 .bf16 from iblk m c 5 t) (ix2 r j)) (fun j => (show FVec Ideal S1x768 .f32 from iblk m c 7 t) (ix2 0 j))
        (fun j => (show FVec Ideal S512x768 .bf16 from iblk m c 6 t) (ix2 r j))
      = row YF YB XS Z D ⟨(a.val * 512 + r.val) / 2048, by omega⟩ ⟨(a.val * 512 + r.val) % 2048, by omega⟩ := by
  have hf := funext fun j => (read_yf m c t a ha r j).trans ((rows_yf m c _ j).trans (congrFun eYF _))
  have hb := funext fun j => (read_yb m c t a ha r j).trans ((rows_yb m c _ j).trans (congrFun eYB _))
  have hs := funext fun j => (read_xs m c t a ha r j).trans ((rows_xs m c _ j).trans (congrFun eXS _))
  have hd := funext fun j => (read_d m c t j).trans ((row_d m c j).trans (congrArg (fun D => skip D j) eD))
  have hz : (fun j => (show FVec Ideal S512x768 .bf16 from iblk m c 6 t) (ix2 r j))
      = fun j => Z (ix2 ⟨(a.val * 512 + r.val) / 2048 * 2048 + (a.val * 512 + r.val) % 2048, by omega⟩ j) := by
    funext j
    refine (read_z m c t a ha r j).trans ((congrFun ((V_main_arg6 m c).trans eZ) _).trans (congrArg (fun R => Z (ix2 R j)) (Fin.ext ?_)))
    show a.val * 512 + r.val = (a.val * 512 + r.val) / 2048 * 2048 + (a.val * 512 + r.val) % 2048
    omega
  rw [hf, hb, hs, hd, hz]
  rfl

include eX eFO eMO eYF eYB eXS eZ eD eNG eW ePG in
/-- **What a point leaves in its block is the result there.** -/
theorem block_out (t : Fin cfg0.N) (a : Fin 64) (ha : t.val = a.val) (r : Fin 512) (e : Fin 2048) :
    (show FVec Ideal S512x2048 .f32 from out0_11 (F := Ideal) (iblk m c 0 t) (iblk m c 1 t) (iblk m c 2 t) (iblk m c 3 t) (iblk m c 4 t)
        (iblk m c 5 t) (iblk m c 6 t) (iblk m c 7 t) (iblk m c 8 t) (iblk m c 9 t) (iblk m c 10 t)) (ix2 r e)
      = Cert.Reference4Ideal.Read.val_main_v58 (F := Ideal) X FO MO YF YB XS Z D NG W PG (ix2 ⟨a.val * 512 + r.val, by omega⟩ e) := by
  rw [Cert.Reference4Ideal.Mixer.flat, Cert.Reference4Ideal.Mixer.result, ← block_row m c YF YB XS Z D eYF eYB eXS eZ eD t a ha r]
  have hx := funext fun d => (read_x m c t a ha r d).trans ((rows_x m c _ d).trans (congrFun eX _))
  have hf := funext fun d => (read_fo m c t a ha r d).trans ((rows_fo m c _ d).trans (congrFun eFO _))
  have ho := funext fun d => (read_mo m c t a ha r d).trans ((rows_mo m c _ d).trans (congrFun eMO _))
  have hg := funext fun d => (read_g m c t d).trans ((row_g m c d).trans (congrFun eNG _))
  have hw := funext fun k => funext fun e => (read_w m c t k e).trans ((entry_w m c k e).trans (congrFun eW _))
  have hp := funext fun d => (read_p m c t d).trans ((row_p m c d).trans (congrFun ePG _))
  rw [← hx, ← hf, ← ho, ← hg, ← hw, ← hp]
  exact point _ _ _ _ _ _ _ _ _ _ _ r e

include eX eFO eMO eYF eYB eXS eZ eD eNG eW ePG in
/-- **The kernel's result is the reference's.** -/
theorem final : (dats m 0 c).arrAt 11 (cfgs 0).N = Cert.Reference4Ideal.Read.val_main_v58 (F := Ideal) X FO MO YF YB XS Z D NG W PG := by
  refine (dats m 0 c).arrAt_eq_of_covers 11 _ (by decide +kernel) fun t hf y => ?_
  blk_simp
  rw [after0_11]
  obtain ⟨_, _, _, _, _, _, _, i11⟩ := idx t
  have hN : t.val < 64 := Nat.lt_of_lt_of_eq t.isLt N_0
  have hy : y = (ix2 (y 0) (y 1) : S512x2048.Idx) := by blk_ext
  rw [hy]
  refine (block_out m c X FO MO YF YB XS Z D NG W PG eX eFO eMO eYF eYB eXS eZ eD eNG eW ePG t ⟨t.val, hN⟩ rfl (y 0) (y 1)).trans (congrArg _ ?_)
  blk_ext [i11]

end run

end Cert.Kernel4Ideal.OutProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Flash.Finite
public import proofs.«01_k».proof.Proof.Flash.Final
public import proofs.«01_k».proof.Proof.Ffn.Final
public import proofs.«01_k».proof.Proof.InProj.Final
public import proofs.«01_k».proof.Proof.OutProj.Final
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Kernel

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Kernel3.Facts := Cert.Kernel3.Gen.facts
local instance : Cert.Kernel3Ideal.Facts := Cert.Kernel3Ideal.Gen.facts
local instance : Cert.Reference3Ideal.Facts := Cert.Reference3Ideal.Gen.facts
local instance : Cert.Kernel4.Facts := Cert.Kernel4.Gen.facts
local instance : Cert.Kernel4Ideal.Facts := Cert.Kernel4Ideal.Gen.facts
local instance : Cert.Reference4Ideal.Facts := Cert.Reference4Ideal.Gen.facts
local instance : Cert.Pre_finite_qk.Facts := Cert.Finite.facts

/-- The attention's value claim. -/
theorem attention : Cert.algebraic_KernelIdeal_ReferenceIdeal_pre_finite_qk := by
  pair_intro
  · run_from Cert.KernelIdeal.Gen.run_main m g
  · run_from Cert.ReferenceIdeal.Value.run m' g'
    refine (Cert.ReferenceIdeal.Read.val_main_v25_eq (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))).trans ?_
    exact (Cert.KernelIdeal.Flash.final m c _ _ _ rfl rfl rfl (Cert.Finite.queries _ _ _ (hpre c).1) (Cert.Finite.keys _ _ _ (hpre c).2)).symm

/-- The feed-forward layer's value claim. -/
theorem feed_forward : Cert.algebraic_Kernel2Ideal_Reference2Ideal := by
  pair_intro
  · run_from Cert.Kernel2Ideal.Gen.run_main m g
  · run_from Cert.Reference2Ideal.Value.run m' g'
    refine Eq.trans ?_ (Cert.Kernel2Ideal.Ffn.final m c _ _ _ _ _ rfl rfl rfl rfl rfl).symm
    obtain ⟨h0, h1, h2, h3, h4⟩ := hagree c
    rw [← h0, ← h1, ← h2, ← h3, ← h4]
    exact Cert.Reference2Ideal.Read.val_main_v39_eq (F := Ideal) m' c

/-- The input projection's value claim. -/
theorem projection : Cert.algebraic_Kernel3Ideal_Reference3Ideal := by
  intro m g m' g' _ hagree
  refine ⟨_, _, _, _, _, _, Cert.Kernel3Ideal.Value.run_blocks m g,
    (θ_run _ _ _).mono (fun r h c => ?_) (Cert.Reference3Ideal.Value.run m' g')⟩
  obtain ⟨h0, h1, h2⟩ := hagree c
  obtain ⟨r3, r4, r5, r6, r7, r8, a0, a1, a2⟩ := h c
  refine ⟨r3.trans ?_, r4.trans ?_, r5.trans ?_, r6.trans ?_, r7.trans ?_, r8.trans ?_, a0, a1, a2⟩
  · exact (Cert.Reference3Ideal.Read.val_main_v32_eq (F := Ideal) _ _ _).trans (Cert.Kernel3Ideal.InProj.final3 m c _ _ _ h0.symm h1.symm h2.symm).symm
  · exact (Cert.Reference3Ideal.Read.val_main_v33_eq (F := Ideal) _ _ _).trans (Cert.Kernel3Ideal.InProj.final4 m c _ _ _ h0.symm h1.symm h2.symm).symm
  · exact (Cert.Reference3Ideal.Read.val_main_v34_eq (F := Ideal) _ _ _).trans (Cert.Kernel3Ideal.InProj.final5 m c _ _ _ h0.symm h1.symm h2.symm).symm
  · exact (Cert.Reference3Ideal.Read.val_main_v35_eq (F := Ideal) _ _ _).trans (Cert.Kernel3Ideal.InProj.final6 m c _ _ _ h0.symm h1.symm h2.symm).symm
  · exact (Cert.Reference3Ideal.Read.val_main_v36_eq (F := Ideal) _ _ _).trans (Cert.Kernel3Ideal.InProj.final7 m c _ _ _ h0.symm h1.symm h2.symm).symm
  · exact (Cert.Reference3Ideal.Read.val_main_v31_eq (F := Ideal) _ _).trans (Cert.Kernel3Ideal.InProj.final8 m c _ _ _ h0.symm h1.symm h2.symm).symm

/-- The output projection's value claim. -/
theorem joining : Cert.algebraic_Kernel4Ideal_Reference4Ideal := by
  intro m g m' g' _ hagree
  refine ⟨_, Cert.Kernel4Ideal.Value.run_blocks m g,
    (θ_run _ _ _).mono (fun r h c => ?_) (Cert.Reference4Ideal.Value.run m' g')⟩
  obtain ⟨h0, h1, h2, h3, h4, h5, h6, h7, h8, h9, h10⟩ := hagree c
  obtain ⟨r11, a⟩ := h c
  refine ⟨r11.trans ?_, a⟩
  exact (Cert.Reference4Ideal.Read.val_main_v58_eq (F := Ideal) m' c).trans
    (Cert.Kernel4Ideal.OutProj.final m c _ _ _ _ _ _ _ _ _ _ _ h0.symm h1.symm h2.symm h3.symm h4.symm h5.symm h6.symm h7.symm h8.symm h9.symm h10.symm).symm

/-- The attention reference's frame: it declares no semaphore. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- The feed-forward reference's frame: it declares no semaphore. -/
theorem reference2_frame : Cert.quiescent_Reference2Ideal := fun m g _ =>
  (θ_run _ _ _).mono (fun r h => ⟨fun c => (h c).2, sem_eq_zero_of_no_sems (by decide) r.2⟩) (Cert.Reference2Ideal.Value.run m g)

/-- The input projection reference's frame: it declares no semaphore. -/
theorem reference3_frame : Cert.quiescent_Reference3Ideal := fun m g _ =>
  (θ_run _ _ _).mono (fun r h => ⟨fun c => (h c).2.2.2.2.2.2, sem_eq_zero_of_no_sems (by decide) r.2⟩) (Cert.Reference3Ideal.Value.run m g)

/-- The output projection reference's frame: it declares no semaphore. -/
theorem reference4_frame : Cert.quiescent_Reference4Ideal := fun m g _ =>
  (θ_run _ _ _).mono (fun r h => ⟨fun c => (h c).2, sem_eq_zero_of_no_sems (by decide) r.2⟩) (Cert.Reference4Ideal.Value.run m g)

/-- The attention reference's frame under the precondition. -/
theorem reference_frame_pre : Cert.quiescent_ReferenceIdeal_pre_finite_qk := fun m g _ => reference_frame m g trivial

/-- All claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Finite.facts,
  fun m ρ _ => Cert.Kernel.Gen.frame m ρ, fun m ρ _ => Cert.KernelIdeal.Gen.frame m ρ, fun m ρ _ => Cert.KernelIdeal.Gen.frame m ρ,
  reference_frame, reference_frame_pre,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  trivial, attention, trivial, feed_forward, trivial, projection, trivial, joining⟩

end Cert.Proof

end
